-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x784x32x32 : Shape := ⟨4, ![4, 784, 32, 32]⟩
abbrev S1000x5 : Shape := ⟨2, ![1000, 5]⟩
abbrev S1000x1 : Shape := ⟨2, ![1000, 1]⟩
abbrev S1000 : Shape := ⟨1, ![1000]⟩
abbrev S_ : Shape := ⟨0, ![]⟩

class Facts : Prop where
  slices_S1000x5_S1000x1_0_0 : S1000x5.Slices ![0, 0] S1000x1
  shapeCasts_S1000x1_S1000 : S1000x1.ShapeCasts S1000
  bcast_S_S1000 : S_.BroadcastsInDim S1000 (![] : Fin 0 → Fin S1000.rank)
  reducesTo_S1000_S_d0 : S1000.ReducesTo [0] S_
  h_S_ : 0 < S_.numel

variable [Facts]

def fn {F : FTy → Type} [FloatOps F] (main_arg0 : FVec F S4x784x32x32 .f32) (main_arg1 : FVec F S1000x5 .f32) : IVec S_ 1 :=
  let main_v0 : FVec F S1000x1 .f32 := (extractStridedSlice S1000x1 ![0, 0] · slices_S1000x5_S1000x1_0_0) main_arg1
  let main_v1 : FVec F S1000 .f32 := shapeCast S1000 main_v0 shapeCasts_S1000x1_S1000
  let main_cst : FVec F S_ .f32 := constant S_ .f32 0x00000000#32
  let main_v2 : FVec F S1000 .f32 := broadcastInDim S1000 ![] bcast_S_S1000 main_cst
  let main_v3 : IVec S1000 1 := cmpf .oeq main_v1 main_v2
  let main_cst_0 : FVec F S_ .f32 := constant S_ .f32 0x3F800000#32
  let main_v4 : FVec F S1000 .f32 := broadcastInDim S1000 ![] bcast_S_S1000 main_cst_0
  let main_v5 : IVec S1000 1 := cmpf .oeq main_v1 main_v4
  let main_v6 : IVec S1000 1 := ori main_v3 main_v5
  let main_cst_1 : FVec F S_ .f32 := constant S_ .f32 0x40000000#32
  let main_v7 : FVec F S1000 .f32 := broadcastInDim S1000 ![] bcast_S_S1000 main_cst_1
  let main_v8 : IVec S1000 1 := cmpf .oeq main_v1 main_v7
  let main_v9 : IVec S1000 1 := ori main_v6 main_v8
  let main_cst_2 : FVec F S_ .f32 := constant S_ .f32 0x40400000#32
  let main_v10 : FVec F S1000 .f32 := broadcastInDim S1000 ![] bcast_S_S1000 main_cst_2
  let main_v11 : IVec S1000 1 := cmpf .oeq main_v1 main_v10
  let main_v12 : IVec S1000 1 := ori main_v9 main_v11
  let main_c : IVec S_ 1 := constantI S_ 1 1#1
  let main_v13 : IVec S_ 1 := (fun x v => Host.reduce IntOp.andi x v reducesTo_S1000_S_d0 h_S_) main_v12 main_c
  main_v13
-- ==== Kernel.lean ====
abbrev S4x784x32x32 : Shape := ⟨4, ![4, 784, 32, 32]⟩
abbrev S1000x5 : Shape := ⟨2, ![1000, 5]⟩
abbrev S4x16x7x7x32x32 : Shape := ⟨6, ![4, 16, 7, 7, 32, 32]⟩
abbrev S5x1000 : Shape := ⟨2, ![5, 1000]⟩
abbrev S7x16x7x1000 : Shape := ⟨4, ![7, 16, 7, 1000]⟩
abbrev S4x16x7x1x32x32 : Shape := ⟨6, ![4, 16, 7, 1, 32, 32]⟩
abbrev S1x16x7x1000 : Shape := ⟨4, ![1, 16, 7, 1000]⟩
abbrev S1x1000 : Shape := ⟨2, ![1, 1000]⟩
abbrev S128x1000 : Shape := ⟨2, ![128, 1000]⟩
abbrev S224x1000 : Shape := ⟨2, ![224, 1000]⟩
abbrev S1x16x7x1x32x32 : Shape := ⟨6, ![1, 16, 7, 1, 32, 32]⟩
abbrev S16x7x32x32 : Shape := ⟨4, ![16, 7, 32, 32]⟩
abbrev S3584x32 : Shape := ⟨2, ![3584, 32]⟩
abbrev S3584x128 : Shape := ⟨2, ![3584, 128]⟩
abbrev S3584x1000 : Shape := ⟨2, ![3584, 1000]⟩
abbrev S16x7x32x1000 : Shape := ⟨4, ![16, 7, 32, 1000]⟩
abbrev S7x32x1000 : Shape := ⟨3, ![7, 32, 1000]⟩
abbrev S1x7x32x1000 : Shape := ⟨4, ![1, 7, 32, 1000]⟩
abbrev S16x7x1000 : Shape := ⟨3, ![16, 7, 1000]⟩
abbrev S1000x16x7x7 : Shape := ⟨4, ![1000, 16, 7, 7]⟩

abbrev nBuf : Space → Nat
  | .hbm => 7
  | .vmem => 5
  | .smem => 0
  | _ => 0

abbrev bufTy : (tb : Table) → Fin (tcTables nBuf tb) → BufTy
  | .hbm, ⟨0, _⟩ => ⟨S4x784x32x32, .f32⟩
  | .hbm, ⟨1, _⟩ => ⟨S1000x5, .f32⟩
  | .hbm, ⟨2, _⟩ => ⟨S4x784x32x32, .bf16⟩
  | .hbm, ⟨3, _⟩ => ⟨S4x16x7x7x32x32, .bf16⟩
  | .hbm, ⟨4, _⟩ => ⟨S5x1000, .f32⟩
  | .hbm, ⟨5, _⟩ => ⟨S7x16x7x1000, .f32⟩
  | .hbm, ⟨6, _⟩ => ⟨S1000x16x7x7, .f32⟩
  | .local _ .vmem, ⟨0, _⟩ => ⟨S5x1000, .f32⟩
  | .local _ .vmem, ⟨1, _⟩ => ⟨S4x16x7x1x32x32, .bf16⟩
  | .local _ .vmem, ⟨2, _⟩ => ⟨S4x16x7x1x32x32, .bf16⟩
  | .local _ .vmem, ⟨3, _⟩ => ⟨S1x16x7x1000, .f32⟩
  | .local _ .vmem, ⟨4, _⟩ => ⟨S1x16x7x1000, .f32⟩
  | _, _ => ⟨S4x784x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, arg0.toNat, c0_i32_2.toNat, c0_i32_3.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S5x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x16x7x1x32x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x7x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x784x32x32 : Shape := ⟨4, ![4, 784, 32, 32]⟩
abbrev S1000x5 : Shape := ⟨2, ![1000, 5]⟩
abbrev S1000x1 : Shape := ⟨2, ![1000, 1]⟩
abbrev S1000 : Shape := ⟨1, ![1000]⟩
abbrev S_ : Shape := ⟨0, ![]⟩
abbrev S7 : Shape := ⟨1, ![7]⟩
abbrev S2 : Shape := ⟨1, ![2]⟩
abbrev S1000x1x1 : Shape := ⟨3, ![1000, 1, 1]⟩
abbrev S1x7x1 : Shape := ⟨3, ![1, 7, 1]⟩
abbrev S1x1x2 : Shape := ⟨3, ![1, 1, 2]⟩
abbrev S1x7x2 : Shape := ⟨3, ![1, 7, 2]⟩
abbrev S1000x7x2 : Shape := ⟨3, ![1000, 7, 2]⟩
abbrev S784 : Shape := ⟨1, ![784]⟩
abbrev S16x7x7 : Shape := ⟨3, ![16, 7, 7]⟩
abbrev S16x7x7x1x1 : Shape := ⟨5, ![16, 7, 7, 1, 1]⟩
abbrev S1000x4 : Shape := ⟨2, ![1000, 4]⟩
abbrev S1000x1x784x32x32 : Shape := ⟨5, ![1000, 1, 784, 32, 32]⟩
abbrev S1000x784x32x32 : Shape := ⟨4, ![1000, 784, 32, 32]⟩
abbrev S1000x1x7x1x2x1 : Shape := ⟨6, ![1000, 1, 7, 1, 2, 1]⟩
abbrev S1000x1x1x7x1x2 : Shape := ⟨6, ![1000, 1, 1, 7, 1, 2]⟩
abbrev S1000x1x7x7x2x2 : Shape := ⟨6, ![1000, 1, 7, 7, 2, 2]⟩
abbrev S16x7x7x2x2 : Shape := ⟨5, ![16, 7, 7, 2, 2]⟩
abbrev S1000x16x7x7x2x2 : Shape := ⟨6, ![1000, 16, 7, 7, 2, 2]⟩
abbrev S16x7x7x2x2x1 : Shape := ⟨6, ![16, 7, 7, 2, 2, 1]⟩
abbrev S1000x16x7x7x2x2x1 : Shape := ⟨7, ![1000, 16, 7, 7, 2, 2, 1]⟩
abbrev S1000x16x7x7x2x2x3 : Shape := ⟨7, ![1000, 16, 7, 7, 2, 2, 3]⟩
abbrev S1000x16x7x7 : Shape := ⟨4, ![1000, 16, 7, 7]⟩

abbrev nBuf : Space → Nat
  | .hbm => 362
  | .vmem => 0
  | .smem => 0
  | _ => 0

abbrev hbmTy0_0 (i : Nat) : BufTy := match i % 128 with
  | 0 => ⟨S4x784x32x32, .f32⟩
  | 1 => ⟨S1000x5, .f32⟩
  | 2 => ⟨S1000x1, .f32⟩
  | 3 => ⟨S1000, .f32⟩
  | 4 => ⟨S1000, .i32⟩
  | 5 => ⟨S1000x1, .f32⟩
  | 6 => ⟨S1000, .f32⟩
  | 7 => ⟨S_, .f32⟩
  | 8 => ⟨S1000, .f32⟩
  | 9 => ⟨S1000, .f32⟩
  | 10 => ⟨S_, .f32⟩
  | 11 => ⟨S1000, .f32⟩
  | 12 => ⟨S1000, .f32⟩
  | 13 => ⟨S1000x1, .f32⟩
  | 14 => ⟨S1000, .f32⟩
  | 15 => ⟨S_, .f32⟩
  | 16 => ⟨S1000, .f32⟩
  | 17 => ⟨S1000, .f32⟩
  | 18 => ⟨S_, .f32⟩
  | 19 => ⟨S1000, .f32⟩
  | 20 => ⟨S1000, .f32⟩
  | 21 => ⟨S1000x1, .f32⟩
  | 22 => ⟨S1000, .f32⟩
  | 23 => ⟨S_, .f32⟩
  | 24 => ⟨S1000, .f32⟩
  | 25 => ⟨S1000, .f32⟩
  | 26 => ⟨S_, .f32⟩
  | 27 => ⟨S1000, .f32⟩
  | 28 => ⟨S1000, .f32⟩
  | 29 => ⟨S1000x1, .f32⟩
  | 30 => ⟨S1000, .f32⟩
  | 31 => ⟨S_, .f32⟩
  | 32 => ⟨S1000, .f32⟩
  | 33 => ⟨S1000, .f32⟩
  | 34 => ⟨S_, .f32⟩
  | 35 => ⟨S1000, .f32⟩
  | 36 => ⟨S1000, .f32⟩
  | 37 => ⟨S1000, .f32⟩
  | 38 => ⟨S_, .f32⟩
  | 39 => ⟨S1000, .f32⟩
  | 40 => ⟨S1000, .f32⟩
  | 41 => ⟨S1000, .f32⟩
  | 42 => ⟨S_, .f32⟩
  | 43 => ⟨S1000, .f32⟩
  | 44 => ⟨S1000, .f32⟩
  | 45 => ⟨S_, .f32⟩
  | 46 => ⟨S1000, .f32⟩
  | 47 => ⟨S1000, .f32⟩
  | 48 => ⟨S_, .f32⟩
  | 49 => ⟨S1000, .f32⟩
  | 50 => ⟨S1000, .f32⟩
  | 51 => ⟨S7, .f32⟩
  | 52 => ⟨S7, .f32⟩
  | 53 => ⟨S2, .f32⟩
  | 54 => ⟨S_, .f32⟩
  | 55 => ⟨S2, .f32⟩
  | 56 => ⟨S2, .f32⟩
  | 57 => ⟨S_, .f32⟩
  | 58 => ⟨S2, .f32⟩
  | 59 => ⟨S2, .f32⟩
  | 60 => ⟨S1000x1x1, .f32⟩
  | 61 => ⟨S1x7x1, .f32⟩
  | 62 => ⟨S1x1x2, .f32⟩
  | 63 => ⟨S1x7x2, .f32⟩
  | 64 => ⟨S1x7x2, .f32⟩
  | 65 => ⟨S1x7x2, .f32⟩
  | 66 => ⟨S1000x1x1, .f32⟩
  | 67 => ⟨S1000x7x2, .f32⟩
  | 68 => ⟨S1000x7x2, .f32⟩
  | 69 => ⟨S1000x7x2, .f32⟩
  | 70 => ⟨S1000x7x2, .f32⟩
  | 71 => ⟨S1000x7x2, .f32⟩
  | 72 => ⟨S1000x1x1, .f32⟩
  | 73 => ⟨S1x7x1, .f32⟩
  | 74 => ⟨S1x1x2, .f32⟩
  | 75 => ⟨S1x7x2, .f32⟩
  | 76 => ⟨S1x7x2, .f32⟩
  | 77 => ⟨S1x7x2, .f32⟩
  | 78 => ⟨S1000x1x1, .f32⟩
  | 79 => ⟨S1000x7x2, .f32⟩
  | 80 => ⟨S1000x7x2, .f32⟩
  | 81 => ⟨S1000x7x2, .f32⟩
  | 82 => ⟨S1000x7x2, .f32⟩
  | 83 => ⟨S1000x7x2, .f32⟩
  | 84 => ⟨S784, .i32⟩
  | 85 => ⟨S16x7x7, .i32⟩
  | 86 => ⟨S16x7x7x1x1, .i32⟩
  | 87 => ⟨S_, .f32⟩
  | 88 => ⟨S1000x7x2, .f32⟩
  | 89 => ⟨S1000x7x2, .i1⟩
  | 90 => ⟨S_, .f32⟩
  | 91 => ⟨S1000x7x2, .f32⟩
  | 92 => ⟨S1000x7x2, .i1⟩
  | 93 => ⟨S1000x7x2, .i1⟩
  | 94 => ⟨S_, .f32⟩
  | 95 => ⟨S1000x7x2, .f32⟩
  | 96 => ⟨S1000x7x2, .i1⟩
  | 97 => ⟨S_, .f32⟩
  | 98 => ⟨S1000x7x2, .f32⟩
  | 99 => ⟨S1000x7x2, .i1⟩
  | 100 => ⟨S1000x7x2, .i1⟩
  | 101 => ⟨S_, .f32⟩
  | 102 => ⟨S1000x7x2, .f32⟩
  | 103 => ⟨S1000x7x2, .f32⟩
  | 104 => ⟨S_, .f32⟩
  | 105 => ⟨S1000x7x2, .f32⟩
  | 106 => ⟨S1000x7x2, .f32⟩
  | 107 => ⟨S1000x7x2, .f32⟩
  | 108 => ⟨S1000x7x2, .i32⟩
  | 109 => ⟨S_, .i32⟩
  | 110 => ⟨S1000x7x2, .i32⟩
  | 111 => ⟨S1000x7x2, .i32⟩
  | 112 => ⟨S1000x7x2, .f32⟩
  | 113 => ⟨S1000x7x2, .i32⟩
  | 114 => ⟨S_, .i32⟩
  | 115 => ⟨S1000x7x2, .i32⟩
  | 116 => ⟨S1000x7x2, .i32⟩
  | 117 => ⟨S_, .i32⟩
  | 118 => ⟨S1000x7x2, .i32⟩
  | 119 => ⟨S1000x7x2, .i32⟩
  | 120 => ⟨S_, .i32⟩
  | 121 => ⟨S1000x7x2, .i32⟩
  | 122 => ⟨S1000x7x2, .i32⟩
  | 123 => ⟨S_, .i32⟩
  | 124 => ⟨S1000x7x2, .i32⟩
  | 125 => ⟨S1000x7x2, .i32⟩
  | 126 => ⟨S_, .i32⟩
  | 127 => ⟨S1000x7x2, .i32⟩
  | _ => ⟨S4x784x32x32, .f32⟩

abbrev hbmTy0_1 (i : Nat) : BufTy := match i % 128 with
  | 0 => ⟨S1000x7x2, .i32⟩
  | 1 => ⟨S_, .i32⟩
  | 2 => ⟨S1000x7x2, .i32⟩
  | 3 => ⟨S1000x7x2, .i1⟩
  | 4 => ⟨S1000x7x2, .f32⟩
  | 5 => ⟨S1000x7x2, .f32⟩
  | 6 => ⟨S_, .i32⟩
  | 7 => ⟨S1000x7x2, .i32⟩
  | 8 => ⟨S1000x7x2, .i1⟩
  | 9 => ⟨S1000x7x2, .f32⟩
  | 10 => ⟨S1000x7x2, .f32⟩
  | 11 => ⟨S1000x7x2, .f32⟩
  | 12 => ⟨S1000x7x2, .f32⟩
  | 13 => ⟨S_, .f32⟩
  | 14 => ⟨S1000x7x2, .f32⟩
  | 15 => ⟨S1000x7x2, .f32⟩
  | 16 => ⟨S1000x7x2, .f32⟩
  | 17 => ⟨S1000x7x2, .f32⟩
  | 18 => ⟨S_, .f32⟩
  | 19 => ⟨S1000x7x2, .f32⟩
  | 20 => ⟨S1000x7x2, .f32⟩
  | 21 => ⟨S_, .i32⟩
  | 22 => ⟨S1000, .i32⟩
  | 23 => ⟨S1000, .i1⟩
  | 24 => ⟨S_, .i32⟩
  | 25 => ⟨S1000, .i32⟩
  | 26 => ⟨S1000, .i32⟩
  | 27 => ⟨S1000, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1000x1, .i32⟩
  | 53 => ⟨S1000x1, .i32⟩
  | 54 => ⟨S1000x1, .i32⟩
  | 55 => ⟨S1000x1, .i32⟩
  | 56 => ⟨S1000x4, .i32⟩
  | 57 => ⟨S1000x1x784x32x32, .f32⟩
  | 58 => ⟨S1000x784x32x32, .f32⟩
  | 59 => ⟨S1000x1x7x1x2x1, .f32⟩
  | 60 => ⟨S1000x1x1x7x1x2, .f32⟩
  | 61 => ⟨S1000x1x7x7x2x2, .f32⟩
  | 62 => ⟨S1000x1x7x7x2x2, .f32⟩
  | 63 => ⟨S1000x1x7x7x2x2, .f32⟩
  | 64 => ⟨S1000x1x7x1x2x1, .i32⟩
  | 65 => ⟨S1000x1x1x7x1x2, .i32⟩
  | 66 => ⟨S_, .i32⟩
  | 67 => ⟨S16x7x7x1x1, .i32⟩
  | 68 => ⟨S16x7x7x1x1, .i1⟩
  | 69 => ⟨S_, .i32⟩
  | 70 => ⟨S16x7x7x1x1, .i32⟩
  | 71 => ⟨S16x7x7x1x1, .i32⟩
  | 72 => ⟨S16x7x7x1x1, .i32⟩
  | 73 => ⟨S_, .i32⟩
  | 74 => ⟨S1000x1x7x1x2x1, .i32⟩
  | 75 => ⟨S1000x1x7x1x2x1, .i1⟩
  | 76 => ⟨S_, .i32⟩
  | 77 => ⟨S1000x1x7x1x2x1, .i32⟩
  | 78 => ⟨S1000x1x7x1x2x1, .i32⟩
  | 79 => ⟨S1000x1x7x1x2x1, .i32⟩
  | 80 => ⟨S_, .i32⟩
  | 81 => ⟨S1000x1x1x7x1x2, .i32⟩
  | 82 => ⟨S1000x1x1x7x1x2, .i1⟩
  | 83 => ⟨S_, .i32⟩
  | 84 => ⟨S1000x1x1x7x1x2, .i32⟩
  | 85 => ⟨S1000x1x1x7x1x2, .i32⟩
  | 86 => ⟨S1000x1x1x7x1x2, .i32⟩
  | 87 => ⟨S16x7x7x2x2, .i32⟩
  | 88 => ⟨S1000x16x7x7x2x2, .i32⟩
  | 89 => ⟨S1000x16x7x7x2x2, .i32⟩
  | 90 => ⟨S16x7x7x2x2x1, .i32⟩
  | 91 => ⟨S1000x16x7x7x2x2x1, .i32⟩
  | 92 => ⟨S1000x16x7x7x2x2x1, .i32⟩
  | 93 => ⟨S1000x16x7x7x2x2x1, .i32⟩
  | 94 => ⟨S1000x16x7x7x2x2x3, .i32⟩
  | 95 => ⟨S1000x16x7x7x2x2, .f32⟩
  | 96 => ⟨S1000x16x7x7x2x2, .f32⟩
  | 97 => ⟨S1000x16x7x7x2x2, .f32⟩
  | 98 => ⟨S1000x1x7x1x2x1, .f32⟩
  | 99 => ⟨S1000x1x1x7x1x2, .f32⟩
  | 100 => ⟨S1000x1x7x7x2x2, .f32⟩
  | 101 => ⟨S1000x1x7x7x2x2, .f32⟩
  | 102 => ⟨S1000x1x7x7x2x2, .f32⟩
  | 103 => ⟨S1000x1x7x1x2x1, .i32⟩
  | 104 => ⟨S1000x1x1x7x1x2, .i32⟩
  | 105 => ⟨S_, .i32⟩
  | 106 => ⟨S16x7x7x1x1, .i32⟩
  | 107 => ⟨S16x7x7x1x1, .i1⟩
  | 108 => ⟨S_, .i32⟩
  | 109 => ⟨S16x7x7x1x1, .i32⟩
  | 110 => ⟨S16x7x7x1x1, .i32⟩
  | 111 => ⟨S16x7x7x1x1, .i32⟩
  | 112 => ⟨S_, .i32⟩
  | 113 => ⟨S1000x1x7x1x2x1, .i32⟩
  | 114 => ⟨S1000x1x7x1x2x1, .i1⟩
  | 115 => ⟨S_, .i32⟩
  | 116 => ⟨S1000x1x7x1x2x1, .i32⟩
  | 117 => ⟨S1000x1x7x1x2x1, .i32⟩
  | 118 => ⟨S1000x1x7x1x2x1, .i32⟩
  | 119 => ⟨S_, .i32⟩
  | 120 => ⟨S1000x1x1x7x1x2, .i32⟩
  | 121 => ⟨S1000x1x1x7x1x2, .i1⟩
  | 122 => ⟨S_, .i32⟩
  | 123 => ⟨S1000x1x1x7x1x2, .i32⟩
  | 124 => ⟨S1000x1x1x7x1x2, .i32⟩
  | 125 => ⟨S1000x1x1x7x1x2, .i32⟩
  | 126 => ⟨S16x7x7x2x2, .i32⟩
  | 127 => ⟨S1000x16x7x7x2x2, .i32⟩
  | _ => ⟨S4x784x32x32, .f32⟩

abbrev hbmTy0_2 (i : Nat) : BufTy := match i % 128 with
  | 0 => ⟨S1000x16x7x7x2x2, .i32⟩
  | 1 => ⟨S16x7x7x2x2x1, .i32⟩
  | 2 => ⟨S1000x16x7x7x2x2x1, .i32⟩
  | 3 => ⟨S1000x16x7x7x2x2x1, .i32⟩
  | 4 => ⟨S1000x16x7x7x2x2x1, .i32⟩
  | 5 => ⟨S1000x16x7x7x2x2x3, .i32⟩
  | 6 => ⟨S1000x16x7x7x2x2, .f32⟩
  | 7 => ⟨S1000x16x7x7x2x2, .f32⟩
  | 8 => ⟨S1000x16x7x7x2x2, .f32⟩
  | 9 => ⟨S1000x16x7x7x2x2, .f32⟩
  | 10 => ⟨S1000x1x7x1x2x1, .f32⟩
  | 11 => ⟨S1000x1x1x7x1x2, .f32⟩
  | 12 => ⟨S1000x1x7x7x2x2, .f32⟩
  | 13 => ⟨S1000x1x7x7x2x2, .f32⟩
  | 14 => ⟨S1000x1x7x7x2x2, .f32⟩
  | 15 => ⟨S1000x1x7x1x2x1, .i32⟩
  | 16 => ⟨S1000x1x1x7x1x2, .i32⟩
  | 17 => ⟨S_, .i32⟩
  | 18 => ⟨S16x7x7x1x1, .i32⟩
  | 19 => ⟨S16x7x7x1x1, .i1⟩
  | 20 => ⟨S_, .i32⟩
  | 21 => ⟨S16x7x7x1x1, .i32⟩
  | 22 => ⟨S16x7x7x1x1, .i32⟩
  | 23 => ⟨S16x7x7x1x1, .i32⟩
  | 24 => ⟨S_, .i32⟩
  | 25 => ⟨S1000x1x7x1x2x1, .i32⟩
  | 26 => ⟨S1000x1x7x1x2x1, .i1⟩
  | 27 => ⟨S_, .i32⟩
  | 28 => ⟨S1000x1x7x1x2x1, .i32⟩
  | 29 => ⟨S1000x1x7x1x2x1, .i32⟩
  | 30 => ⟨S1000x1x7x1x2x1, .i32⟩
  | 31 => ⟨S_, .i32⟩
  | 32 => ⟨S1000x1x1x7x1x2, .i32⟩
  | 33 => ⟨S1000x1x1x7x1x2, .i1⟩
  | 34 => ⟨S_, .i32⟩
  | 35 => ⟨S1000x1x1x7x1x2, .i32⟩
  | 36 => ⟨S1000x1x1x7x1x2, .i32⟩
  | 37 => ⟨S1000x1x1x7x1x2, .i32⟩
  | 38 => ⟨S16x7x7x2x2, .i32⟩
  | 39 => ⟨S1000x16x7x7x2x2, .i32⟩
  | 40 => ⟨S1000x16x7x7x2x2, .i32⟩
  | 41 => ⟨S16x7x7x2x2x1, .i32⟩
  | 42 => ⟨S1000x16x7x7x2x2x1, .i32⟩
  | 43 => ⟨S1000x16x7x7x2x2x1, .i32⟩
  | 44 => ⟨S1000x16x7x7x2x2x1, .i32⟩
  | 45 => ⟨S1000x16x7x7x2x2x3, .i32⟩
  | 46 => ⟨S1000x16x7x7x2x2, .f32⟩
  | 47 => ⟨S1000x16x7x7x2x2, .f32⟩
  | 48 => ⟨S1000x16x7x7x2x2, .f32⟩
  | 49 => ⟨S1000x16x7x7x2x2, .f32⟩
  | 50 => ⟨S1000x1x7x1x2x1, .f32⟩
  | 51 => ⟨S1000x1x1x7x1x2, .f32⟩
  | 52 => ⟨S1000x1x7x7x2x2, .f32⟩
  | 53 => ⟨S1000x1x7x7x2x2, .f32⟩
  | 54 => ⟨S1000x1x7x7x2x2, .f32⟩
  | 55 => ⟨S1000x1x7x1x2x1, .i32⟩
  | 56 => ⟨S1000x1x1x7x1x2, .i32⟩
  | 57 => ⟨S_, .i32⟩
  | 58 => ⟨S16x7x7x1x1, .i32⟩
  | 59 => ⟨S16x7x7x1x1, .i1⟩
  | 60 => ⟨S_, .i32⟩
  | 61 => ⟨S16x7x7x1x1, .i32⟩
  | 62 => ⟨S16x7x7x1x1, .i32⟩
  | 63 => ⟨S16x7x7x1x1, .i32⟩
  | 64 => ⟨S_, .i32⟩
  | 65 => ⟨S1000x1x7x1x2x1, .i32⟩
  | 66 => ⟨S1000x1x7x1x2x1, .i1⟩
  | 67 => ⟨S_, .i32⟩
  | 68 => ⟨S1000x1x7x1x2x1, .i32⟩
  | 69 => ⟨S1000x1x7x1x2x1, .i32⟩
  | 70 => ⟨S1000x1x7x1x2x1, .i32⟩
  | 71 => ⟨S_, .i32⟩
  | 72 => ⟨S1000x1x1x7x1x2, .i32⟩
  | 73 => ⟨S1000x1x1x7x1x2, .i1⟩
  | 74 => ⟨S_, .i32⟩
  | 75 => ⟨S1000x1x1x7x1x2, .i32⟩
  | 76 => ⟨S1000x1x1x7x1x2, .i32⟩
  | 77 => ⟨S1000x1x1x7x1x2, .i32⟩
  | 78 => ⟨S16x7x7x2x2, .i32⟩
  | 79 => ⟨S1000x16x7x7x2x2, .i32⟩
  | 80 => ⟨S1000x16x7x7x2x2, .i32⟩
  | 81 => ⟨S16x7x7x2x2x1, .i32⟩
  | 82 => ⟨S1000x16x7x7x2x2x1, .i32⟩
  | 83 => ⟨S1000x16x7x7x2x2x1, .i32⟩
  | 84 => ⟨S1000x16x7x7x2x2x1, .i32⟩
  | 85 => ⟨S1000x16x7x7x2x2x3, .i32⟩
  | 86 => ⟨S1000x16x7x7x2x2, .f32⟩
  | 87 => ⟨S1000x16x7x7x2x2, .f32⟩
  | 88 => ⟨S1000x16x7x7x2x2, .f32⟩
  | 89 => ⟨S1000x16x7x7x2x2, .f32⟩
  | 90 => ⟨S1000x1x7x1x2x1, .i1⟩
  | 91 => ⟨S1000x1x1x7x1x2, .i1⟩
  | 92 => ⟨S1000x1x7x7x2x2, .i1⟩
  | 93 => ⟨S1000x1x7x7x2x2, .i1⟩
  | 94 => ⟨S1000x1x7x7x2x2, .i1⟩
  | 95 => ⟨S_, .f32⟩
  | 96 => ⟨S_, .f32⟩
  | 97 => ⟨S1000x16x7x7x2x2, .i1⟩
  | 98 => ⟨S16x7x7x2x2, .f32⟩
  | 99 => ⟨S1000x16x7x7x2x2, .f32⟩
  | 100 => ⟨S1000x16x7x7x2x2, .f32⟩
  | 101 => ⟨S_, .f32⟩
  | 102 => ⟨S1000x16x7x7, .f32⟩
  | 103 => ⟨S_, .f32⟩
  | 104 => ⟨S1000x16x7x7, .f32⟩
  | 105 => ⟨S1000x16x7x7, .f32⟩
  | _ => ⟨S4x784x32x32, .f32⟩

abbrev hbmTy (i : Nat) : BufTy := match i / 128 with
  | 0 => hbmTy0_0 i
  | 1 => hbmTy0_1 i
  | 2 => hbmTy0_2 i
  | _ => ⟨S4x784x32x32, .f32⟩

abbrev bufTy : (tb : Table) → Fin (tcTables nBuf tb) → BufTy
  | .hbm, ⟨i, _⟩ => hbmTy i
  | _, _ => ⟨S4x784x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_13 : Ref sig .tc := ⟨.hbm, 87, rfl⟩
abbrev main_v71 : Ref sig .tc := ⟨.hbm, 88, rfl⟩
abbrev main_v72 : Ref sig .tc := ⟨.hbm, 89, rfl⟩
abbrev main_cst_14 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_15 : Ref sig .tc := ⟨.hbm, 94, rfl⟩
abbrev main_v76 : Ref sig .tc := ⟨.hbm, 95, rfl⟩
abbrev main_v77 : Ref sig .tc := ⟨.hbm, 96, rfl⟩
abbrev main_cst_16 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_17 : Ref sig .tc := ⟨.hbm, 101, rfl⟩
abbrev main_v81 : Ref sig .tc := ⟨.hbm, 102, rfl⟩
abbrev main_v82 : Ref sig .tc := ⟨.hbm, 103, rfl⟩
abbrev main_cst_18 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_c_19 : Ref sig .tc := ⟨.hbm, 114, rfl⟩
abbrev main_v91 : Ref sig .tc := ⟨.hbm, 115, rfl⟩
abbrev main_v92 : Ref sig .tc := ⟨.hbm, 116, rfl⟩
abbrev main_c_20 : Ref sig .tc := ⟨.hbm, 117, rfl⟩
abbrev main_v93 : Ref sig .tc := ⟨.hbm, 118, rfl⟩
abbrev main_v94 : Ref sig .tc := ⟨.hbm, 119, rfl⟩
abbrev main_c_21 : Ref sig .tc := ⟨.hbm, 120, rfl⟩
abbrev main_v95 : Ref sig .tc := ⟨.hbm, 121, rfl⟩
abbrev main_v96 : Ref sig .tc := ⟨.hbm, 122, rfl⟩
abbrev main_c_22 : Ref sig .tc := ⟨.hbm, 123, rfl⟩
abbrev main_v97 : Ref sig .tc := ⟨.hbm, 124, rfl⟩
abbrev main_v98 : Ref sig .tc := ⟨.hbm, 125, rfl⟩
abbrev main_c_23 : Ref sig .tc := ⟨.hbm, 126, rfl⟩
abbrev main_v99 : Ref sig .tc := ⟨.hbm, 127, rfl⟩
abbrev main_v100 : Ref sig .tc := ⟨.hbm, 128, rfl⟩
abbrev main_c_24 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c_25 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_26 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_27 : Ref sig .tc := ⟨.hbm, 146, rfl⟩
abbrev main_v115 : Ref sig .tc := ⟨.hbm, 147, rfl⟩
abbrev main_v116 : Ref sig .tc := ⟨.hbm, 148, rfl⟩
abbrev main_c_28 : Ref sig .tc := ⟨.hbm, 149, rfl⟩
abbrev main_v117 : Ref sig .tc := ⟨.hbm, 150, rfl⟩
abbrev main_v118 : Ref sig .tc := ⟨.hbm, 151, rfl⟩
abbrev main_c_29 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_30 : Ref sig .tc := ⟨.hbm, 156, rfl⟩
abbrev main_c_31 : Ref sig .tc := ⟨.hbm, 157, rfl⟩
abbrev main_v122 : Ref sig .tc := ⟨.hbm, 158, rfl⟩
abbrev main_c_32 : Ref sig .tc := ⟨.hbm, 159, rfl⟩
abbrev main_c_33 : Ref sig .tc := ⟨.hbm, 160, rfl⟩
abbrev main_v123 : Ref sig .tc := ⟨.hbm, 161, rfl⟩
abbrev main_c_34 : Ref sig .tc := ⟨.hbm, 162, rfl⟩
abbrev main_v124 : Ref sig .tc := ⟨.hbm, 163, rfl⟩
abbrev main_c_35 : Ref sig .tc := ⟨.hbm, 164, rfl⟩
abbrev main_c_36 : Ref sig .tc := ⟨.hbm, 165, rfl⟩
abbrev main_v125 : Ref sig .tc := ⟨.hbm, 166, rfl⟩
abbrev main_c_37 : Ref sig .tc := ⟨.hbm, 167, rfl⟩
abbrev main_c_38 : Ref sig .tc := ⟨.hbm, 168, rfl⟩
abbrev main_v126 : Ref sig .tc := ⟨.hbm, 169, rfl⟩
abbrev main_c_39 : Ref sig .tc := ⟨.hbm, 170, rfl⟩
abbrev main_v127 : Ref sig .tc := ⟨.hbm, 171, rfl⟩
abbrev main_c_40 : Ref sig .tc := ⟨.hbm, 172, rfl⟩
abbrev main_c_41 : Ref sig .tc := ⟨.hbm, 173, rfl⟩
abbrev main_v128 : Ref sig .tc := ⟨.hbm, 174, rfl⟩
abbrev main_c_42 : Ref sig .tc := ⟨.hbm, 175, rfl⟩
abbrev main_c_43 : Ref sig .tc := ⟨.hbm, 176, rfl⟩
abbrev main_v129 : Ref sig .tc := ⟨.hbm, 177, rfl⟩
abbrev main_c_44 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_45 : Ref sig .tc := ⟨.hbm, 194, rfl⟩
abbrev main_v145 : Ref sig .tc := ⟨.hbm, 195, rfl⟩
abbrev main_v146 : Ref sig .tc := ⟨.hbm, 196, rfl⟩
abbrev main_c_46 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_47 : Ref sig .tc := ⟨.hbm, 201, rfl⟩
abbrev main_v150 : Ref sig .tc := ⟨.hbm, 202, rfl⟩
abbrev main_v151 : Ref sig .tc := ⟨.hbm, 203, rfl⟩
abbrev main_c_48 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_49 : Ref sig .tc := ⟨.hbm, 208, rfl⟩
abbrev main_v155 : Ref sig .tc := ⟨.hbm, 209, rfl⟩
abbrev main_v156 : Ref sig .tc := ⟨.hbm, 210, rfl⟩
abbrev main_c_50 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_c_51 : Ref sig .tc := ⟨.hbm, 233, rfl⟩
abbrev main_v178 : Ref sig .tc := ⟨.hbm, 234, rfl⟩
abbrev main_v179 : Ref sig .tc := ⟨.hbm, 235, rfl⟩
abbrev main_c_52 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_c_53 : Ref sig .tc := ⟨.hbm, 240, rfl⟩
abbrev main_v183 : Ref sig .tc := ⟨.hbm, 241, rfl⟩
abbrev main_v184 : Ref sig .tc := ⟨.hbm, 242, rfl⟩
abbrev main_c_54 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_c_55 : Ref sig .tc := ⟨.hbm, 247, rfl⟩
abbrev main_v188 : Ref sig .tc := ⟨.hbm, 248, rfl⟩
abbrev main_v189 : Ref sig .tc := ⟨.hbm, 249, rfl⟩
abbrev main_c_56 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_c_57 : Ref sig .tc := ⟨.hbm, 273, rfl⟩
abbrev main_v212 : Ref sig .tc := ⟨.hbm, 274, rfl⟩
abbrev main_v213 : Ref sig .tc := ⟨.hbm, 275, rfl⟩
abbrev main_c_58 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_c_59 : Ref sig .tc := ⟨.hbm, 280, rfl⟩
abbrev main_v217 : Ref sig .tc := ⟨.hbm, 281, rfl⟩
abbrev main_v218 : Ref sig .tc := ⟨.hbm, 282, rfl⟩
abbrev main_c_60 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_c_61 : Ref sig .tc := ⟨.hbm, 287, rfl⟩
abbrev main_v222 : Ref sig .tc := ⟨.hbm, 288, rfl⟩
abbrev main_v223 : Ref sig .tc := ⟨.hbm, 289, rfl⟩
abbrev main_c_62 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_c_63 : Ref sig .tc := ⟨.hbm, 313, rfl⟩
abbrev main_v246 : Ref sig .tc := ⟨.hbm, 314, rfl⟩
abbrev main_v247 : Ref sig .tc := ⟨.hbm, 315, rfl⟩
abbrev main_c_64 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_c_65 : Ref sig .tc := ⟨.hbm, 320, rfl⟩
abbrev main_v251 : Ref sig .tc := ⟨.hbm, 321, rfl⟩
abbrev main_v252 : Ref sig .tc := ⟨.hbm, 322, rfl⟩
abbrev main_c_66 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_c_67 : Ref sig .tc := ⟨.hbm, 327, rfl⟩
abbrev main_v256 : Ref sig .tc := ⟨.hbm, 328, rfl⟩
abbrev main_v257 : Ref sig .tc := ⟨.hbm, 329, rfl⟩
abbrev main_c_68 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_cst_69 : Ref sig .tc := ⟨.hbm, 351, rfl⟩
abbrev main_call2_v0 : Ref sig .tc := ⟨.hbm, 352, rfl⟩
abbrev main_call2_v1 : Ref sig .tc := ⟨.hbm, 353, rfl⟩
abbrev main_call2_v2 : Ref sig .tc := ⟨.hbm, 354, rfl⟩
abbrev main_call2_v3 : Ref sig .tc := ⟨.hbm, 355, rfl⟩
abbrev main_v278 : Ref sig .tc := ⟨.hbm, 356, rfl⟩
abbrev main_cst_70 : Ref sig .tc := ⟨.hbm, 357, rfl⟩
abbrev main_v279 : Ref sig .tc := ⟨.hbm, 358, rfl⟩
abbrev main_cst_71 : Ref sig .tc := ⟨.hbm, 359, rfl⟩
abbrev main_v280 : Ref sig .tc := ⟨.hbm, 360, rfl⟩
abbrev main_v281 : Ref sig .tc := ⟨.hbm, 361, rfl⟩

abbrev nD : Nat := 1
abbrev τ : Topo := Topo.v7x

variable {F : FTy → Type} [FloatOps F]
-- ==== Proof.Taps.lean ====
/-
  Bilinear sampling on one axis of 32 cells, over the extended reals. The kernel spreads a sampling coordinate over
  all 32 cells with the hat function `max (1 - |u - j|) 0`; the reference reads the two neighbouring cells with the
  weights `1 - l` and `l`. This module states both and proves that they agree, first on one axis, then on the plane.
-/
module

public import Idealize.ShloMosaic.Lib.Pointwise

@[expose] public section

noncomputable section

namespace Cert.RoiAlign

open Idealize.ShloMosaic
open scoped BigOperators

/-! ## The constants of the two programs -/

/-- The pattern of minus one. -/
theorem bits_neg_one : Ideal.ofBits .f32 0xBF800000#32 = ((-1 : ℝ) : EReal) := by
  simp [Ideal.ofBits, Ideal.ieee, -EReal.coe_mul, -EReal.coe_neg]; norm_num

/-- The pattern of thirty-two. -/
theorem bits_thirty_two : Ideal.ofBits .f32 0x42000000#32 = ((32 : ℝ) : EReal) := by
  simp [Ideal.ofBits, Ideal.ieee, -EReal.coe_mul, -EReal.coe_neg]; norm_num

/-- The pattern of thirty-one. -/
theorem bits_thirty_one : Ideal.ofBits .f32 0x41F80000#32 = ((31 : ℝ) : EReal) := by
  simp [Ideal.ofBits, Ideal.ieee, -EReal.coe_mul, -EReal.coe_neg]; norm_num

/-- The pattern of one quarter. -/
theorem bits_quarter : Ideal.ofBits .f32 0x3E800000#32 = ((1 / 4 : ℝ) : EReal) := by
  simp [Ideal.ofBits, Ideal.ieee, -EReal.coe_mul, -EReal.coe_neg]; norm_num

/-- The pattern of three quarters. -/
theorem bits_three_quarters : Ideal.ofBits .f32 0x3F400000#32 = ((3 / 4 : ℝ) : EReal) := by
  simp [Ideal.ofBits, Ideal.ieee, -EReal.coe_mul, -EReal.coe_neg]; norm_num

/-- The pattern of one half. -/
theorem bits_half : Ideal.ofBits .f32 0x3F000000#32 = ((1 / 2 : ℝ) : EReal) := by
  simp [Ideal.ofBits, Ideal.ieee, -EReal.coe_mul, -EReal.coe_neg]; norm_num

/-- The pattern of two. -/
theorem bits_two : Ideal.ofBits .f32 0x40000000#32 = ((2 : ℝ) : EReal) := by
  simp [Ideal.ofBits, Ideal.ieee, -EReal.coe_mul, -EReal.coe_neg]; norm_num

/-- The pattern of three. -/
theorem bits_three : Ideal.ofBits .f32 0x40400000#32 = ((3 : ℝ) : EReal) := by
  simp [Ideal.ofBits, Ideal.ieee, -EReal.coe_mul, -EReal.coe_neg]; norm_num

/-- The pattern of four. -/
theorem bits_four : Ideal.ofBits .f32 0x40800000#32 = ((4 : ℝ) : EReal) := by
  simp [Ideal.ofBits, Ideal.ieee, -EReal.coe_mul, -EReal.coe_neg]; norm_num

/-! ## The kernel's weight and the reference's neighbours -/

/-- A sampling coordinate counts when it lies between `-1` and `32`. -/
def Valid (v : EReal) : Prop := ((-1 : ℝ) : EReal) ≤ v ∧ v ≤ ((32 : ℝ) : EReal)

instance (v : EReal) : Decidable (Valid v) := by unfold Valid; infer_instance

/-- A region's edge in cells: the given edge at the feature map's scale, moved by half a cell. -/
def edge (r : EReal) : EReal := r * Ideal.ofBits .f32 0x3D800000#32 - Ideal.ofBits .f32 0x3F000000#32

/-- A seventh of a region's extent, the extent at least `0.1`. -/
def bin (s e : EReal) : EReal :=
  Ideal.div (max (edge e - edge s) (Ideal.ofBits .f32 0x3DCCCCCD#32)) (Ideal.ofBits .f32 0x40E00000#32)

/-- The sampling coordinate at the fraction `q` of bin `p` of the region from `s` to `e`. -/
def coord (s e : EReal) (p : ℕ) (q : ℝ) : EReal := edge s + (((p : ℝ) : EReal) + (q : EReal)) * bin s e

/-- The hat function of the kernel: the weight cell `j` gets at a coordinate clamped into `[0, 31]`. -/
def hat (v : EReal) (j : ℕ) : EReal :=
  max (1 - max (min (max v 0) ((31 : ℝ) : EReal) - ((j : ℝ) : EReal)) (-(min (max v 0) ((31 : ℝ) : EReal) - ((j : ℝ) : EReal)))) 0

/-- The kernel's weight of cell `j` for the sampling coordinate `v`: the hat where the coordinate counts, else zero. -/
def tap (v : EReal) (j : ℕ) : EReal := if Valid v then hat v j else 0

/-- The reference's lower neighbour, as a word. -/
def lowW (v : EReal) : BitVec 32 := IntOp.minsi (Ideal.fptosi 32 (Ideal.liftRound Int.floor (max v 0))) 31#32

/-- The reference's upper neighbour, as a word. -/
def highW (v : EReal) : BitVec 32 := IntOp.minsi (IntOp.addi (lowW v) 1#32) 31#32

/-- The reference's weight of the upper neighbour. -/
def fracE (v : EReal) : EReal :=
  Scalar.select (IntOp.cmpi .sge (lowW v) 31#32) (((lowW v).toInt : ℝ) : EReal) (max v 0) - (((lowW v).toInt : ℝ) : EReal)

/-- A word used as a position on an axis of 32: wrapped once when negative, read signed, clamped. -/
def cell (w : BitVec 32) : Fin 32 :=
  ⟨min (Scalar.select (IntOp.cmpi .slt w 0#32) (IntOp.addi w 32#32) w).toInt.toNat 31, by omega⟩

/-- The four-neighbour interpolation of the reference at `(vy, vx)`, zero where a coordinate does not count. -/
def sample (f : Fin 32 → Fin 32 → EReal) (vy vx : EReal) : EReal :=
  if Valid vy ∧ Valid vx then
    (1 - fracE vy) * (1 - fracE vx) * f (cell (lowW vy)) (cell (lowW vx))
      + (1 - fracE vy) * fracE vx * f (cell (lowW vy)) (cell (highW vx))
      + fracE vy * (1 - fracE vx) * f (cell (highW vy)) (cell (lowW vx))
      + fracE vy * fracE vx * f (cell (highW vy)) (cell (highW vx))
  else 0

/-- One output element of the reference: in the channel `f`, for the region with edges `sw`, `sh`, `ew`, `eh`, the
    mean of the samples at a quarter and three quarters of bin row `ph` and bin column `pw`. -/
def roi (f : Fin 32 → Fin 32 → EReal) (sw sh ew eh : EReal) (ph pw : ℕ) : EReal :=
  Ideal.div (sample f (coord sh eh ph (1 / 4)) (coord sw ew pw (1 / 4)) + sample f (coord sh eh ph (1 / 4)) (coord sw ew pw (3 / 4))
      + sample f (coord sh eh ph (3 / 4)) (coord sw ew pw (1 / 4)) + sample f (coord sh eh ph (3 / 4)) (coord sw ew pw (3 / 4)))
    (Ideal.ofBits .f32 0x40800000#32)

/-! ## One axis -/

/-- The larger of two reals, among the extended reals. -/
theorem real_max (a b : ℝ) : ((max a b : ℝ) : EReal) = max (a : EReal) (b : EReal) := EReal.coe_strictMono.monotone.map_max

/-- The smaller of two reals, among the extended reals. -/
theorem real_min (a b : ℝ) : ((min a b : ℝ) : EReal) = min (a : EReal) (b : EReal) := EReal.coe_strictMono.monotone.map_min

/-- A word below 32 is the position it spells. -/
theorem cell_ofNat (n : ℕ) (hn : n < 32) : cell (BitVec.ofNat 32 n) = ⟨n, hn⟩ := by
  have h : ∀ k : Fin 32, cell (BitVec.ofNat 32 k.val) = k := by decide
  exact h ⟨n, hn⟩

/-- What one axis needs of a coordinate that counts: the two neighbours, their weights, and the hat in terms of them. -/
theorem axis (v : EReal) (hv : Valid v) :
    ∃ (lo hi : Fin 32) (l : ℝ), 0 ≤ l ∧ l ≤ 1 ∧ cell (lowW v) = lo ∧ cell (highW v) = hi ∧ fracE v = (l : EReal)
      ∧ (∀ j : Fin 32, hat v j.val = (((if j = lo then 1 - l else 0) + (if j = hi then l else 0) : ℝ) : EReal)) := by
  obtain ⟨h1, h2⟩ := hv
  induction v using EReal.rec with
  | bot => exact absurd h1 (not_le.2 (EReal.bot_lt_coe _))
  | top => exact absurd h2 (not_le.2 (EReal.coe_lt_top _))
  | coe r =>
    have hr1 : -1 ≤ r := EReal.coe_le_coe_iff.1 h1
    have hr2 : r ≤ 32 := EReal.coe_le_coe_iff.1 h2
    have hmax : max (r : EReal) 0 = ((max r 0 : ℝ) : EReal) := by
      rw [real_max]; rfl
    -- the coordinate clamped from below
    generalize hu : max r 0 = u at hmax
    have hu0 : 0 ≤ u := hu ▸ le_max_right _ _
    have hu32 : u ≤ 32 := hu ▸ max_le hr2 (by norm_num)
    -- its integer part
    obtain ⟨n, hn⟩ : ∃ n : ℕ, ⌊u⌋ = (n : ℤ) := ⟨⌊u⌋.toNat, (Int.toNat_of_nonneg (Int.floor_nonneg.2 hu0)).symm⟩
    have hnu : (n : ℝ) ≤ u := by
      have := Int.floor_le u; rw [hn] at this; exact_mod_cast this
    have hun : u < (n : ℝ) + 1 := by
      have := Int.lt_floor_add_one u; rw [hn] at this; exact_mod_cast this
    have hn32 : n ≤ 32 := by
      have : (n : ℝ) ≤ 32 := hnu.trans hu32
      exact_mod_cast this
    have hfp : Ideal.fptosi 32 (Ideal.liftRound Int.floor (max (r : EReal) 0)) = BitVec.ofNat 32 n := by
      rw [hmax]
      show Ideal.fptosi 32 (((⌊u⌋ : ℝ)) : EReal) = _
      rw [hn]
      unfold Ideal.fptosi
      show BitVec.ofInt 32 (max _ (min _ (if (0 : ℝ) ≤ ((n : ℤ) : ℝ) then ⌊((n : ℤ) : ℝ)⌋ else ⌈((n : ℤ) : ℝ)⌉))) = _
      rw [if_pos (by positivity), Int.floor_intCast]
      have : max (-((2 ^ (32 - 1) : ℕ) : ℤ)) (min (((2 ^ (32 - 1) : ℕ) : ℤ) - 1) (n : ℤ)) = (n : ℤ) := by
        norm_num; omega
      rw [this]; exact BitVec.ofInt_natCast ..
    have hlow : lowW (r : EReal) = BitVec.ofNat 32 (min n 31) := by
      unfold lowW; rw [hfp]
      have h : ∀ k : Fin 33, IntOp.minsi (BitVec.ofNat 32 k.val) 31#32 = BitVec.ofNat 32 (min k.val 31) := by decide
      exact h ⟨n, by omega⟩
    have hhigh : highW (r : EReal) = BitVec.ofNat 32 (min (min n 31 + 1) 31) := by
      unfold highW; rw [hlow]
      have h : ∀ k : Fin 33, IntOp.minsi (IntOp.addi (BitVec.ofNat 32 (min k.val 31)) 1#32) 31#32
          = BitVec.ofNat 32 (min (min k.val 31 + 1) 31) := by decide
      exact h ⟨n, by omega⟩
    have hint : (lowW (r : EReal)).toInt = ((min n 31 : ℕ) : ℤ) := by
      rw [hlow]
      have h : ∀ k : Fin 33, (BitVec.ofNat 32 (min k.val 31)).toInt = ((min k.val 31 : ℕ) : ℤ) := by decide
      exact h ⟨n, by omega⟩
    have hsge : IntOp.cmpi .sge (lowW (r : EReal)) 31#32 = if 31 ≤ n then 1#1 else 0#1 := by
      rw [hlow]
      have h : ∀ k : Fin 33, IntOp.cmpi .sge (BitVec.ofNat 32 (min k.val 31)) 31#32 = if 31 ≤ k.val then 1#1 else 0#1 := by
        decide
      exact h ⟨n, by omega⟩
    have hhat : ∀ j : ℕ, hat (r : EReal) j = ((max (1 - |min u 31 - (j : ℝ)|) 0 : ℝ) : EReal) := by
      intro j
      unfold hat
      rw [hmax, ← real_min, ← EReal.coe_sub, ← EReal.coe_neg, ← real_max, ← EReal.coe_one, ← EReal.coe_sub,
        ← EReal.coe_zero, ← real_max]
      rfl
    by_cases h31 : 31 ≤ n
    · -- the last cell: no weight above it
      have hlo : min n 31 = 31 := by omega
      have hu31 : (31 : ℝ) ≤ u := le_trans (by exact_mod_cast h31) hnu
      refine ⟨⟨31, by omega⟩, ⟨31, by omega⟩, 0, le_rfl, zero_le_one, ?_, ?_, ?_, ?_⟩
      · rw [hlow, hlo]; exact cell_ofNat 31 (by omega)
      · rw [hhigh, hlo]; exact cell_ofNat 31 (by omega)
      · unfold fracE
        rw [hsge, if_pos h31, hint, hlo]
        show ((((31 : ℕ) : ℤ) : ℝ) : EReal) - ((((31 : ℕ) : ℤ) : ℝ) : EReal) = _
        rw [← EReal.coe_sub, sub_self]
      · intro j
        rw [hhat, min_eq_right hu31]
        congr 1
        have hj : (j.val : ℝ) ≤ 31 := by exact_mod_cast (by omega : j.val ≤ 31)
        rw [abs_of_nonneg (by linarith)]
        by_cases hj31 : j = ⟨31, by omega⟩
        · subst hj31; norm_num
        · have : j.val ≤ 30 := by
            have : j.val ≠ 31 := fun h => hj31 (Fin.ext h)
            omega
          have : (j.val : ℝ) ≤ 30 := by exact_mod_cast this
          rw [if_neg hj31, if_neg hj31, max_eq_right (by linarith)]; norm_num
    · have hlo : min n 31 = n := by omega
      have hhi : min (n + 1) 31 = n + 1 := by omega
      have hn31 : (n : ℝ) + 1 ≤ 31 := by exact_mod_cast (by omega : n + 1 ≤ 31)
      have hu31 : u ≤ 31 := by linarith
      refine ⟨⟨n, by omega⟩, ⟨n + 1, by omega⟩, u - n, by linarith, by linarith, ?_, ?_, ?_, ?_⟩
      · rw [hlow, hlo]; exact cell_ofNat n (by omega)
      · rw [hhigh, hlo, hhi]; exact cell_ofNat (n + 1) (by omega)
      · unfold fracE
        rw [hsge, if_neg h31, hint, hlo, hmax]
        show (u : EReal) - ((((n : ℕ) : ℤ) : ℝ) : EReal) = _
        rw [← EReal.coe_sub]; simp
      · intro j
        rw [hhat, min_eq_left hu31]
        congr 1
        rcases lt_trichotomy j.val n with hj | hj | hj
        · have h1 : j ≠ ⟨n, by omega⟩ := fun h => by rw [h] at hj; exact lt_irrefl _ hj
          have h2 : j ≠ ⟨n + 1, by omega⟩ := fun h => by rw [h] at hj; simp at hj
          have : (j.val : ℝ) + 1 ≤ n := by exact_mod_cast (by omega : j.val + 1 ≤ n)
          rw [if_neg h1, if_neg h2, abs_of_nonneg (by linarith), max_eq_right (by linarith)]; norm_num
        · have h1 : j = ⟨n, by omega⟩ := Fin.ext hj
          have h2 : j ≠ ⟨n + 1, by omega⟩ := fun h => by rw [h] at hj; simp at hj
          rw [if_pos h1, if_neg h2, hj, abs_of_nonneg (by linarith), max_eq_left (by linarith)]; ring
        · have h1 : j ≠ ⟨n, by omega⟩ := fun h => by rw [h] at hj; exact lt_irrefl _ hj
          by_cases hj1 : j.val = n + 1
          · have h2 : j = ⟨n + 1, by omega⟩ := Fin.ext hj1
            rw [if_neg h1, if_pos h2, hj1]
            push_cast
            rw [abs_of_nonpos (by linarith), max_eq_left (by linarith)]; ring
          · have h2 : j ≠ ⟨n + 1, by omega⟩ := fun h => hj1 (by rw [h])
            have : (n : ℝ) + 2 ≤ j.val := by exact_mod_cast (by omega : n + 2 ≤ j.val)
            rw [if_neg h1, if_neg h2, abs_of_nonpos (by linarith), max_eq_right (by linarith)]; norm_num

/-- A tap weight is never negative. -/
theorem tap_nonneg (v : EReal) (j : ℕ) : 0 ≤ tap v j := by
  unfold tap; split
  · exact le_max_right _ _
  · exact le_rfl

/-- On the 32 cells a tap weight is finite. -/
theorem tap_ne_top (v : EReal) (j : Fin 32) : tap v j.val ≠ ⊤ := by
  unfold tap; split
  · next h =>
    obtain ⟨_, _, l, _, _, _, _, _, hh⟩ := axis v h
    rw [hh j]; exact EReal.coe_ne_top _
  · exact EReal.zero_ne_top

/-- Multiplying by a finite weight that is not negative distributes over a finite sum. -/
theorem sum_mul_weight {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- ONE AXIS: summing 32 values against the tap weights of a coordinate that counts is the interpolation between its
    two neighbours. -/
theorem sum_tap (v : EReal) (hv : Valid v) (g : Fin 32 → EReal) :
    (∑ j, g j * tap v j.val) = (1 - fracE v) * g (cell (lowW v)) + fracE v * g (cell (highW v)) := by
  obtain ⟨lo, hi, l, h0, h1, hlo, hhi, hf, hh⟩ := axis v hv
  rw [hlo, hhi, hf]
  have h1' : (0 : ℝ) ≤ 1 - l := by linarith
  have e : ∀ j : Fin 32, g j * tap v j.val
      = (if j = lo then g j * ((1 - l : ℝ) : EReal) else 0) + (if j = hi then g j * (l : EReal) else 0) := by
    intro j
    unfold tap
    rw [if_pos hv, hh j, EReal.coe_add, EReal.left_distrib_of_nonneg
      (EReal.coe_nonneg.2 (by split <;> [exact h1'; exact le_rfl])) (EReal.coe_nonneg.2 (by split <;> [exact h0; exact le_rfl]))]
    congr 1 <;> split <;> simp
  rw [Finset.sum_congr rfl fun j _ => e j, Finset.sum_add_distrib, Finset.sum_ite_eq' Finset.univ lo,
    Finset.sum_ite_eq' Finset.univ hi, if_pos (Finset.mem_univ _), if_pos (Finset.mem_univ _), mul_comm, mul_comm (g hi),
    EReal.coe_sub, EReal.coe_one]

/-- A coordinate that does not count has no weight anywhere. -/
theorem tap_invalid (v : EReal) (hv : ¬ Valid v) (j : ℕ) : tap v j = 0 := if_neg hv

/-! ## The plane -/

/-- A plane of 32 by 32 values summed against weights on each axis, columns first. -/
def plane (f : Fin 32 → Fin 32 → EReal) (s t : Fin 32 → EReal) : EReal := ∑ h, (∑ w, f h w * t w) * s h

/-- THE PLANE: the sum against two axes of tap weights is the four-neighbour interpolation. -/
theorem plane_tap (f : Fin 32 → Fin 32 → EReal) (vy vx : EReal) :
    plane f (fun h => tap vy h.val) (fun w => tap vx w.val) = sample f vy vx := by
  unfold plane sample
  by_cases hy : Valid vy
  · by_cases hx : Valid vx
    · rw [if_pos ⟨hy, hx⟩, sum_tap vy hy (fun h => ∑ w, f h w * tap vx w.val), sum_tap vx hx, sum_tap vx hx]
      obtain ⟨_, _, l, h0, h1, _, _, hf, _⟩ := axis vy hy
      rw [hf, ← EReal.coe_one, ← EReal.coe_sub]
      rw [EReal.left_distrib_of_nonneg_of_ne_top (EReal.coe_nonneg.2 (by linarith)) (EReal.coe_ne_top _),
        EReal.left_distrib_of_nonneg_of_ne_top (EReal.coe_nonneg.2 h0) (EReal.coe_ne_top _)]
      simp only [mul_assoc, add_assoc]
    · rw [if_neg fun h => hx h.2]
      simp [tap_invalid vx hx]
  · rw [if_neg fun h => hy h.1]
    simp [tap_invalid vy hy]

/-- The plane sum with two summed weights on each axis and a finite factor that is not negative on the columns is the
    sum of the four plane sums, times that factor. -/
theorem plane_add (f : Fin 32 → Fin 32 → EReal) (s s' t t' : Fin 32 → EReal) (c : EReal) (hc : 0 ≤ c) (hct : c ≠ ⊤)
    (hs : ∀ h, 0 ≤ s h) (hs' : ∀ h, 0 ≤ s' h) (ht : ∀ h, 0 ≤ t h) (ht' : ∀ h, 0 ≤ t' h)
    (ks : ∀ h, s h ≠ ⊤) (ks' : ∀ h, s' h ≠ ⊤) :
    plane f (fun h => s h + s' h) (fun w => (t w + t' w) * c)
      = (plane f s t + plane f s t' + plane f s' t + plane f s' t') * c := by
  unfold plane
  have inner : ∀ h, (∑ w, f h w * ((t w + t' w) * c)) = ((∑ w, f h w * t w) + ∑ w, f h w * t' w) * c := by
    intro h
    rw [← Finset.sum_add_distrib, sum_mul_weight _ _ c hc hct]
    refine Finset.sum_congr rfl fun w _ => ?_
    rw [← mul_assoc, EReal.left_distrib_of_nonneg (ht w) (ht' w)]
  have row : ∀ h, (∑ w, f h w * ((t w + t' w) * c)) * (s h + s' h)
      = ((∑ w, f h w * t w) * s h + (∑ w, f h w * t' w) * s h + (∑ w, f h w * t w) * s' h
          + (∑ w, f h w * t' w) * s' h) * c := by
    intro h
    rw [inner h, mul_right_comm, EReal.left_distrib_of_nonneg (hs h) (hs' h),
      EReal.right_distrib_of_nonneg_of_ne_top (hs h) (ks h), EReal.right_distrib_of_nonneg_of_ne_top (hs' h) (ks' h)]
    simp only [add_assoc]
  rw [Finset.sum_congr rfl fun h _ => row h, ← sum_mul_weight _ _ c hc hct]
  simp only [Finset.sum_add_distrib]

/-- A quotient by four is a product with one quarter. -/
theorem div_four (x : EReal) : Ideal.div x (Ideal.ofBits .f32 0x40800000#32) = x * ((1 / 4 : ℝ) : EReal) := by
  rw [bits_four]
  unfold Ideal.div
  rw [if_neg (by exact_mod_cast (by norm_num : (4 : ℝ) ≠ 0)), ← EReal.coe_inv]
  norm_num

/-- THE EQUATION OF ONE OUTPUT ELEMENT: the kernel's two contractions with averaged tap weights are the reference's
    average of four interpolated samples. -/
theorem average (f : Fin 32 → Fin 32 → EReal) (y0 y1 x0 x1 : EReal) :
    plane f (fun h => tap y0 h.val + tap y1 h.val) (fun w => (tap x0 w.val + tap x1 w.val) * ((1 / 4 : ℝ) : EReal))
      = Ideal.div (sample f y0 x0 + sample f y0 x1 + sample f y1 x0 + sample f y1 x1) (Ideal.ofBits .f32 0x40800000#32) := by
  rw [div_four, plane_add f _ _ _ _ _ (EReal.coe_nonneg.2 (by norm_num)) (EReal.coe_ne_top _) (fun h => tap_nonneg _ _)
    (fun h => tap_nonneg _ _) (fun h => tap_nonneg _ _) (fun h => tap_nonneg _ _) (fun h => tap_ne_top _ h)
    (fun h => tap_ne_top _ h), plane_tap, plane_tap, plane_tap, plane_tap]

end Cert.RoiAlign

end
-- ==== Proof.KernelPoint.lean ====
/-
  What one grid step of the kernel stores, read at an index.
-/
module

public import proofs.«01_k».proof.Proof.Gen.KernelIdeal.Frame
public import proofs.«01_k».proof.Proof.Taps
public import Idealize.ShloMosaic.Lib.Pointwise

@[expose] public section

set_option maxRecDepth 16384

noncomputable section

namespace Cert.KernelIdeal.Point

open Idealize.ShloMosaic Idealize.ShloMosaic.TcCoe Idealize.SL.Sem
open Cert.KernelIdeal Cert.KernelIdeal.Gen Cert.RoiAlign
open scoped BigOperators

/-! ## Small words as reals -/

/-- A word below `2 ^ 31` read as a signed integer is the number it spells. -/
theorem toInt_word (n : ℕ) (h : n < 2147483648) : (BitVec.ofNat 32 n).toInt = (n : ℤ) := by
  rw [BitVec.toInt_eq_toNat_of_lt] <;> simp only [BitVec.toNat_ofNat] <;> omega

/-- The kernel's conversion of a small word to a float is the number it spells. -/
theorem sitofp_word (n : ℕ) (h : n < 2147483648) :
    (FloatOps.sitofp (F := Ideal) .f32 (BitVec.ofNat 32 n) : EReal) = ((n : ℝ) : EReal) := by
  show ((((BitVec.ofNat 32 n).toInt : ℤ) : ℝ) : EReal) = _
  rw [toInt_word n h]; simp

/-- The five low bits of a row number below 256. -/
theorem low_bits (n : ℕ) (h : n < 256) : IntOp.andi (BitVec.ofNat 32 n) 31#32 = BitVec.ofNat 32 (n % 32) := by
  have : ∀ k : Fin 256, IntOp.andi (BitVec.ofNat 32 k.val) 31#32 = BitVec.ofNat 32 (k.val % 32) := by decide
  exact this ⟨n, h⟩

/-- A row number below 256 shifted right by five bits. -/
theorem high_bits (n : ℕ) (h : n < 256) :
    IntOp.shrsi .vector (BitVec.ofNat 32 n) 5#32 = BitVec.ofNat 32 (n / 32) := by
  have : ∀ k : Fin 256, IntOp.shrsi .vector (BitVec.ofNat 32 k.val) 5#32 = BitVec.ofNat 32 (k.val / 32) := by decide
  exact this ⟨n, h⟩

/-- The guarded hat the kernel computes is the tap weight. -/
theorem tap_select (u : EReal) (n : ℕ) :
    Scalar.select (IntOp.andi (BitVec.ofBool (decide (Ideal.ofBits FTy.f32 0xBF800000#32 ≤ u)))
        (BitVec.ofBool (decide (u ≤ Ideal.ofBits FTy.f32 0x42000000#32))))
      (max (1 - FloatOps.absf (F := Ideal) (φ := .f32) (min (max u 0) (Ideal.ofBits FTy.f32 0x41F80000#32) - ((n : ℝ) : EReal))) 0) (0 : EReal)
      = tap u n := by
  rw [bits_neg_one, bits_thirty_two, bits_thirty_one]
  unfold tap hat
  by_cases h1 : ((-1 : ℝ) : EReal) ≤ u <;> by_cases h2 : u ≤ ((32 : ℝ) : EReal)
  · rw [if_pos (show Valid u from ⟨h1, h2⟩), decide_eq_true h1, decide_eq_true h2]; rfl
  · rw [if_neg (fun h : Valid u => h2 h.2), decide_eq_true h1, decide_eq_false h2]; rfl
  · rw [if_neg (fun h : Valid u => h1 h.1), decide_eq_false h1, decide_eq_true h2]; rfl
  · rw [if_neg (fun h : Valid u => h1 h.1), decide_eq_false h1, decide_eq_false h2]; rfl

/-! ## The payloads, read at an index -/

/-- The batch row. -/
theorem pay3_at (v : Vec Ideal S5x1000 .f32) (k : Fin 1000) : k0_pay3 (F := Ideal) v (ix2 0 k) = v (ix2 0 k) := by
  pointwise [k0_pay3, k0_pay2]

/-- The left edge. -/
theorem pay4_at (v : Vec Ideal S5x1000 .f32) (k : Fin 1000) : k0_pay4 (F := Ideal) v (ix2 0 k) = edge (v (ix2 1 k)) := by
  pointwise [k0_pay4, k0_pay2, edge]

/-- The top edge. -/
theorem pay5_at (v : Vec Ideal S5x1000 .f32) (k : Fin 1000) : k0_pay5 (F := Ideal) v (ix2 0 k) = edge (v (ix2 2 k)) := by
  pointwise [k0_pay5, k0_pay2, edge]

/-- The width of a bin. -/
theorem pay6_at (v : Vec Ideal S5x1000 .f32) (k : Fin 1000) :
    k0_pay6 (F := Ideal) v (ix2 0 k) = bin (v (ix2 1 k)) (v (ix2 3 k)) := by
  pointwise [k0_pay6, k0_pay4, k0_pay2, edge, bin]

/-- The height of a bin. -/
theorem pay7_at (v : Vec Ideal S5x1000 .f32) (k : Fin 1000) :
    k0_pay7 (F := Ideal) v (ix2 0 k) = bin (v (ix2 2 k)) (v (ix2 4 k)) := by
  pointwise [k0_pay7, k0_pay5, k0_pay2, edge, bin]

/-- The column of bins a grid step computes. -/
theorem pay8_at (i : grid0.Coords) : k0_pay8 (F := Ideal) i = (((i 0).val : ℝ) : EReal) := by
  have h : (i 0).val < 7 := (i 0).isLt
  exact sitofp_word (i 0).val (by omega)

/-- The column a row of the horizontal weights stands for. -/
theorem pay9_at (j : Fin 128) (k : Fin 1000) : k0_pay9 (F := Ideal) (ix2 j k) = (((j.val % 32 : ℕ) : ℝ) : EReal) := by
  pointwise [k0_pay9]
  rw [low_bits j.val (by omega)]
  exact sitofp_word _ (by omega)

/-- The image a row of the horizontal weights stands for. -/
theorem pay10_at (j : Fin 128) (k : Fin 1000) : k0_pay10 (F := Ideal) (ix2 j k) = (((j.val / 32 : ℕ) : ℝ) : EReal) := by
  pointwise [k0_pay10]
  rw [high_bits j.val (by omega)]
  exact sitofp_word _ (by omega)

/-- The row a row of the vertical weights stands for. -/
theorem pay17_at (j : Fin 224) (k : Fin 1000) : k0_pay17 (F := Ideal) (ix2 j k) = (((j.val % 32 : ℕ) : ℝ) : EReal) := by
  pointwise [k0_pay17]
  rw [low_bits j.val (by omega)]
  exact sitofp_word _ (by omega)

/-- The row of bins a row of the vertical weights stands for. -/
theorem pay18_at (j : Fin 224) (k : Fin 1000) : k0_pay18 (F := Ideal) (ix2 j k) = (((j.val / 32 : ℕ) : ℝ) : EReal) := by
  pointwise [k0_pay18]
  rw [high_bits j.val (by omega)]
  exact sitofp_word _ (by omega)

/-- The horizontal weights of grid step `i`: the two taps of its column of bins, averaged, on the rows of the
    region's own image, zero on the others. -/
theorem across_at (i : grid0.Coords) (v : Vec Ideal S5x1000 .f32) (j : Fin 128) (k : Fin 1000) :
    k0_pay16 (F := Ideal) (k0_pay3 v) (k0_pay10 (F := Ideal))
        (k0_pay12 (k0_pay4 v) (k0_pay6 v) (k0_pay8 (F := Ideal) i) (k0_pay9 (F := Ideal)) (k0_pay11 (F := Ideal)))
        (k0_pay14 (k0_pay4 v) (k0_pay6 v) (k0_pay8 (F := Ideal) i))
        (k0_pay15 (k0_pay4 v) (k0_pay6 v) (k0_pay8 (F := Ideal) i) (k0_pay9 (F := Ideal))) (ix2 j k)
      = if (((j.val / 32 : ℕ) : ℝ) : EReal) = v (ix2 0 k) then
          (tap (coord (v (ix2 1 k)) (v (ix2 3 k)) (i 0).val (1 / 4)) (j.val % 32)
            + tap (coord (v (ix2 1 k)) (v (ix2 3 k)) (i 0).val (3 / 4)) (j.val % 32)) * ((1 / 4 : ℝ) : EReal)
        else 0 := by
  pointwise [k0_pay16, k0_pay12, k0_pay14, k0_pay15, k0_pay13, k0_pay11, pay3_at, pay4_at, pay6_at, pay8_at, pay9_at, pay10_at,
    tap_select, bits_quarter, bits_three_quarters]
  rfl

/-- The vertical weights: the two taps of each row of bins. -/
theorem down_at (v : Vec Ideal S5x1000 .f32) (j : Fin 224) (k : Fin 1000) :
    k0_pay21 (F := Ideal) (k0_pay5 v) (k0_pay7 v) (k0_pay17 (F := Ideal)) (k0_pay18 (F := Ideal))
        (k0_pay19 (k0_pay5 v) (k0_pay7 v)) (k0_pay20 (F := Ideal)) (ix2 j k)
      = tap (coord (v (ix2 2 k)) (v (ix2 4 k)) (j.val / 32) (1 / 4)) (j.val % 32)
          + tap (coord (v (ix2 2 k)) (v (ix2 4 k)) (j.val / 32) (3 / 4)) (j.val % 32) := by
  pointwise [k0_pay21, k0_pay19, k0_pay20, pay5_at, pay7_at, pay17_at, pay18_at, tap_select, bits_quarter,
    bits_three_quarters]
  rfl

/-- The stored block from its weights and its four images' blocks: rows of 32 columns of the four images side by side
    against the horizontal weights, then the 32 rows against the vertical weights. -/
theorem pay1_at (g : FVec Ideal S128x1000 .bf16) (s : FVec Ideal S224x1000 .f32)
    (a b c d : Vec Ideal S1x16x7x1x32x32 .bf16) (co : Fin 16) (ph : Fin 7) (k : Fin 1000) :
    k0_pay1 (F := Ideal) g s (k0_pay22 a) (k0_pay23 b) (k0_pay24 c) d (ix4 0 co ph k)
      = ∑ h : Fin 32, ((∑ w : Fin 32, a (ix6 0 co ph 0 h w) * g (ix2 ⟨0 * 32 + w.val, by omega⟩ k))
          + (∑ w : Fin 32, b (ix6 0 co ph 0 h w) * g (ix2 ⟨1 * 32 + w.val, by omega⟩ k))
          + (∑ w : Fin 32, c (ix6 0 co ph 0 h w) * g (ix2 ⟨2 * 32 + w.val, by omega⟩ k))
          + (∑ w : Fin 32, d (ix6 0 co ph 0 h w) * g (ix2 ⟨3 * 32 + w.val, by omega⟩ k)))
          * s (ix2 ⟨ph.val * 32 + h.val, by omega⟩ k) := by
  pointwise [k0_pay1, k0_pay22, k0_pay23, k0_pay24]
  refine Finset.sum_congr rfl fun h _ => ?_
  congr 1
  rw [Fin.sum_univ_tiles 4 32 rfl, Fin.sum_univ_four]
  refine congrArg₂ (· + ·) (congrArg₂ (· + ·) (congrArg₂ (· + ·) ?_ ?_) ?_) ?_ <;>
    refine Finset.sum_congr rfl fun w _ => congrArg₂ (· * ·) ?_ (congrArg g (congrArg (fun z => ix2 z k) (Fin.ext ?_)))
  · exact (dif_pos (by show 0 * 32 + w.val < 32; omega)).trans
      (congrArg (fun z => a (ix6 0 co ph 0 h z)) (Fin.ext (by show 0 * 32 + w.val = w.val; omega)))
  · show 0 * 32 + w.val = w.val; omega
  · refine (dif_neg (by show ¬ (1 * 32 + w.val < 32); omega)).trans ((dif_pos (by show 1 * 32 + w.val - 32 < 32; omega)).trans
      (congrArg (fun z => b (ix6 0 co ph 0 h z)) (Fin.ext ?_)))
    show 1 * 32 + w.val - 32 = w.val; omega
  · show 1 * 32 + w.val = 32 + w.val; omega
  · refine (dif_neg (by show ¬ (2 * 32 + w.val < 32); omega)).trans ((dif_neg (by show ¬ (2 * 32 + w.val - 32 < 32); omega)).trans
      ((dif_pos (by show 2 * 32 + w.val - 32 - 32 < 32; omega)).trans
      (congrArg (fun z => c (ix6 0 co ph 0 h z)) (Fin.ext ?_))))
    show 2 * 32 + w.val - 32 - 32 = w.val; omega
  · show 2 * 32 + w.val = 64 + w.val; omega
  · refine (dif_neg (by show ¬ (3 * 32 + w.val < 32); omega)).trans ((dif_neg (by show ¬ (3 * 32 + w.val - 32 < 32); omega)).trans
      ((dif_neg (by show ¬ (3 * 32 + w.val - 32 - 32 < 32); omega)).trans
      (congrArg (fun z => d (ix6 0 co ph 0 h z)) (Fin.ext ?_))))
    show 3 * 32 + w.val - 32 - 32 - 32 = w.val; omega
  · show 3 * 32 + w.val = 96 + w.val; omega

/-- Of the 128 rows of horizontal weights only the 32 of the region's own image contribute. -/
theorem image_sum (m n : ℕ) (F T : Fin 32 → EReal) (W : Fin 32 → EReal)
    (hW : ∀ w : Fin 32, W w = if (((( m * 32 + w.val) / 32 : ℕ) : ℝ) : EReal) = ((n : ℝ) : EReal) then T w else 0) :
    (∑ w, F w * W w) = if m = n then ∑ w, F w * T w else 0 := by
  have hd : ∀ w : Fin 32, (m * 32 + w.val) / 32 = m := fun w => by omega
  by_cases h : m = n
  · rw [if_pos h]
    refine Finset.sum_congr rfl fun w _ => ?_
    rw [hW w, hd, if_pos (by rw [h])]
  · rw [if_neg h]
    refine Finset.sum_eq_zero fun w _ => ?_
    rw [hW w, hd, if_neg (fun e => h (by exact_mod_cast e)), mul_zero]

/-- Image `m`'s 32 columns against the horizontal weights of a region of image `n`. -/
theorem across_sum (i : grid0.Coords) (v : Vec Ideal S5x1000 .f32) (k : Fin 1000) (n : ℕ)
    (hn : v (ix2 0 k) = ((n : ℝ) : EReal)) (m : ℕ) (hm : m < 4) (F : Fin 32 → EReal) :
    (∑ w : Fin 32, F w * k0_pay16 (F := Ideal) (k0_pay3 v) (k0_pay10 (F := Ideal))
          (k0_pay12 (k0_pay4 v) (k0_pay6 v) (k0_pay8 (F := Ideal) i) (k0_pay9 (F := Ideal)) (k0_pay11 (F := Ideal)))
          (k0_pay14 (k0_pay4 v) (k0_pay6 v) (k0_pay8 (F := Ideal) i))
          (k0_pay15 (k0_pay4 v) (k0_pay6 v) (k0_pay8 (F := Ideal) i) (k0_pay9 (F := Ideal)))
          (ix2 ⟨m * 32 + w.val, by omega⟩ k))
      = if m = n then
          ∑ w : Fin 32, F w * ((tap (coord (v (ix2 1 k)) (v (ix2 3 k)) (i 0).val (1 / 4)) w.val
            + tap (coord (v (ix2 1 k)) (v (ix2 3 k)) (i 0).val (3 / 4)) w.val) * ((1 / 4 : ℝ) : EReal))
        else 0 := by
  refine image_sum m n F (fun w => (tap (coord (v (ix2 1 k)) (v (ix2 3 k)) (i 0).val (1 / 4)) w.val
            + tap (coord (v (ix2 1 k)) (v (ix2 3 k)) (i 0).val (3 / 4)) w.val) * ((1 / 4 : ℝ) : EReal)) _ fun w => ?_
  have hw : (m * 32 + w.val) % 32 = w.val := by omega
  rw [across_at, hn]
  simp only [hw]

/-- THE STORED BLOCK AT AN INDEX, for a region of image `n`: the average of the four interpolated samples of its bin
    in that image's channel. `v` is the staged transposed regions, `a b c d` the four images' blocks, `f` their
    channel for the output channel `co` and the row of bins `ph`. -/
theorem stored_at (i : grid0.Coords) (v : Vec Ideal S5x1000 .f32) (a b c d : Vec Ideal S1x16x7x1x32x32 .bf16)
    (co : Fin 16) (ph : Fin 7) (k : Fin 1000) (f : Fin 4 → Fin 32 → Fin 32 → EReal)
    (ha : ∀ h w, a (ix6 0 co ph 0 h w) = f 0 h w) (hb : ∀ h w, b (ix6 0 co ph 0 h w) = f 1 h w)
    (hc : ∀ h w, c (ix6 0 co ph 0 h w) = f 2 h w) (hd : ∀ h w, d (ix6 0 co ph 0 h w) = f 3 h w)
    (n : Fin 4) (hn : v (ix2 0 k) = ((n.val : ℝ) : EReal)) :
    k0_pay1 (F := Ideal)
        (k0_pay16 (F := Ideal) (k0_pay3 v) (k0_pay10 (F := Ideal))
          (k0_pay12 (k0_pay4 v) (k0_pay6 v) (k0_pay8 (F := Ideal) i) (k0_pay9 (F := Ideal)) (k0_pay11 (F := Ideal)))
          (k0_pay14 (k0_pay4 v) (k0_pay6 v) (k0_pay8 (F := Ideal) i))
          (k0_pay15 (k0_pay4 v) (k0_pay6 v) (k0_pay8 (F := Ideal) i) (k0_pay9 (F := Ideal))))
        (k0_pay21 (F := Ideal) (k0_pay5 v) (k0_pay7 v) (k0_pay17 (F := Ideal)) (k0_pay18 (F := Ideal))
          (k0_pay19 (k0_pay5 v) (k0_pay7 v)) (k0_pay20 (F := Ideal)))
        (k0_pay22 a) (k0_pay23 b) (k0_pay24 c) d (ix4 0 co ph k)
      = roi (f n) (v (ix2 1 k)) (v (ix2 2 k)) (v (ix2 3 k)) (v (ix2 4 k)) ph.val (i 0).val := by
  rw [pay1_at]
  unfold roi
  rw [← average]
  unfold plane
  refine Finset.sum_congr rfl fun h _ => congrArg₂ (· * ·) ?_ ?_
  · rw [across_sum i v k n.val hn 0 (by omega), across_sum i v k n.val hn 1 (by omega), across_sum i v k n.val hn 2 (by omega),
      across_sum i v k n.val hn 3 (by omega)]
    simp only [ha, hb, hc, hd]
    match n with
    | ⟨0, _⟩ => simp
    | ⟨1, _⟩ => simp
    | ⟨2, _⟩ => simp
    | ⟨3, _⟩ => simp
  · rw [down_at]
    simp only [show (ph.val * 32 + h.val) / 32 = ph.val by omega, show (ph.val * 32 + h.val) % 32 = h.val by omega]

end Cert.KernelIdeal.Point

end
-- ==== Proof.KernelValue.lean ====
/-
  The array the kernel's launch writes, and the array the program returns.
-/
module

public import proofs.«01_k».proof.Proof.KernelPoint
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Point Cert.RoiAlign
open scoped BigOperators

variable (m : (ℓ : Loc nD τ sig) → Buf (Elt Ideal) ℓ)

/-- The place of every window's block at a grid point. -/
theorem idx : ∀ t : Fin cfg0.N, win0_0.index t = ![0, 0]
    ∧ win0_1.index t = ![0, 0, 0, (grid0.coords t 0).val, 0, 0] ∧ win0_2.index t = ![(grid0.coords t 0).val, 0, 0, 0] :=
  (by decide +kernel : ∀ t : Fin grid0.N, _)

/-- The channel of the packed image that the output channel `co` reads for the bin `(ph, pw)`. -/
def channel (co : Fin 16) (ph pw : Fin 7) : Fin 784 := ⟨(co.val * 7 + ph.val) * 7 + pw.val, by omega⟩

/-- The value of the bin `(ph, pw)` of the region `k` in the output channel `co`, when that region is of image `n k`. -/
def value (n : Fin 1000 → Fin 4) (X : FVec Ideal S4x784x32x32 .f32) (R : FVec Ideal S1000x5 .f32)
    (k : Fin 1000) (co : Fin 16) (ph pw : Fin 7) : EReal :=
  roi (fun h w => X (ix4 (n k) (channel co ph pw) h w)) (R (ix2 k 1)) (R (ix2 k 2)) (R (ix2 k 3)) (R (ix2 k 4)) ph.val pw.val

/-- The launch's array: the bins, in the launch's order of axes. -/
def bins (n : Fin 1000 → Fin 4) (X : FVec Ideal S4x784x32x32 .f32) (R : FVec Ideal S1000x5 .f32) :
    FVec Ideal S7x16x7x1000 .f32 := fun i => value n X R (i 3) (i 1) (i 2) (i 0)

/-- `bins` at its coordinates. -/
theorem bins_at (n : Fin 1000 → Fin 4) (X : FVec Ideal S4x784x32x32 .f32) (R : FVec Ideal S1000x5 .f32)
    (pw : Fin 7) (co : Fin 16) (ph : Fin 7) (k : Fin 1000) :
    bins n X R (ix4 pw co ph k) = value n X R k co ph pw := rfl

/-- The regions as the launch is handed them. -/
theorem V_regions (c : Dev nD) (a : Fin 5) (k : Fin 1000) :
    (V m c main_v2 : FVec Ideal S5x1000 .f32) (ix2 a k) = (m ((c : Thread nD τ).loc main_arg1) : FVec Ideal S1000x5 .f32) (ix2 k a) := by
  have h : (V m c main_v2 : FVec Ideal S5x1000 .f32)
      = transpose S5x1000 [1, 0] (m ((c : Thread nD τ).loc main_arg1)) transposes_S1000x5_S5x1000_1_0 := by
    show StableHlo.after hostOps0 (fun b => m (c, b)) (Proc.devRef .tc main_v2) = _
    after_results
    try rfl
  rw [h]
  pointwise

/-- The channels of the packed images, split into output channels and bins. -/
theorem split_at {α : Type} (X : S4x784x32x32.Idx → α) (hs : S4x784x32x32.ShapeCasts S4x16x7x7x32x32)
    (n : Fin 4) (co : Fin 16) (ph pw : Fin 7) (h w : Fin 32) :
    shapeCast S4x16x7x7x32x32 X hs (ix6 n co ph pw h w) = X (ix4 n (channel co ph pw) h w) := by
  refine shapeCast_apply X hs _ _ ?_
  rw [Shape.rowMajor_val_six, Shape.rowMajor_val_four]
  show ((n.val * 784 + ((co.val * 7 + ph.val) * 7 + pw.val)) * 32 + h.val) * 32 + w.val
    = ((((n.val * 16 + co.val) * 7 + ph.val) * 7 + pw.val) * 32 + h.val) * 32 + w.val
  omega

/-- The images as the launch is handed them. -/
theorem V_images (c : Dev nD) (n : Fin 4) (co : Fin 16) (ph pw : Fin 7) (h w : Fin 32) :
    (V m c main_v1 : FVec Ideal S4x16x7x7x32x32 .bf16) (ix6 n co ph pw h w)
      = (m ((c : Thread nD τ).loc main_arg0) : FVec Ideal S4x784x32x32 .f32) (ix4 n (channel co ph pw) h w) := by
  have h' : (V m c main_v1 : FVec Ideal S4x16x7x7x32x32 .bf16)
      = shapeCast S4x16x7x7x32x32 (truncf (F := Ideal) .bf16 (m ((c : Thread nD τ).loc main_arg0)) bitsLt_bf16_f32)
          shapeCasts_S4x784x32x32_S4x16x7x7x32x32 := by
    show StableHlo.after hostOps0 (fun b => m (c, b)) (Proc.devRef .tc main_v1) = _
    after_results
    try rfl
  rw [h', split_at]
  pointwise

/-- The regions' block at a grid point is the transposed array of regions. -/
theorem regions_at (c : Dev nD) (t : Fin cfg0.N) (a : Fin 5) (k : Fin 1000) :
    iblk m c 0 t (ix2 a k) = (m ((c : Thread nD τ).loc main_arg1) : FVec Ideal S1000x5 .f32) (ix2 k a) := by
  refine Eq.trans ?_ (V_regions m c a k)
  blk_ext [iblk, idx t]

/-- The images' block at a grid point is one column of bins of the packed images' channels. -/
theorem images_at (c : Dev nD) (t : Fin cfg0.N) (n : Fin 4) (co : Fin 16) (ph : Fin 7) (h w : Fin 32) :
    iblk m c 1 t (ix6 n co ph 0 h w)
      = (m ((c : Thread nD τ).loc main_arg0) : FVec Ideal S4x784x32x32 .f32) (ix4 n (channel co ph (grid0.coords t 0)) h w) := by
  refine Eq.trans ?_ (V_images m c n co ph (grid0.coords t 0) h w)
  blk_ext [iblk, idx t]

/-- What a grid point stores at an index of its block. -/
theorem point (n : Fin 1000 → Fin 4) (c : Dev nD)
    (hn : ∀ k, (m ((c : Thread nD τ).loc main_arg1) : FVec Ideal S1000x5 .f32) (ix2 k 0) = (((n k).val : ℝ) : EReal))
    (t : Fin cfg0.N) (co : Fin 16) (ph : Fin 7) (k : Fin 1000) :
    out0_2 (F := Ideal) (grid0.coords t) (iblk m c 0 t) (iblk m c 1 t) (ix4 0 co ph k)
      = value n (m ((c : Thread nD τ).loc main_arg0)) (m ((c : Thread nD τ).loc main_arg1)) k co ph (grid0.coords t 0) := by
  unfold_out out0_2
  frame_out
  refine (stored_at (grid0.coords t) (iblk m c 0 t) (View.ld (iblk m c 1 t) r0_1) (View.ld (iblk m c 1 t) r0_2)
    (View.ld (iblk m c 1 t) r0_3) (View.ld (iblk m c 1 t) r0_4) co ph k
    (fun a h w => (m ((c : Thread nD τ).loc main_arg0) : FVec Ideal S4x784x32x32 .f32) (ix4 a (channel co ph (grid0.coords t 0)) h w))
    (fun h w => ?_) (fun h w => ?_) (fun h w => ?_) (fun h w => ?_) (n k) ((regions_at m c t 0 k).trans (hn k))).trans ?_
  · refine Eq.trans ?_ (images_at m c t 0 co ph h w)
    pointwise
  · refine Eq.trans ?_ (images_at m c t 1 co ph h w)
    pointwise
  · refine Eq.trans ?_ (images_at m c t 2 co ph h w)
    pointwise
  · refine Eq.trans ?_ (images_at m c t 3 co ph h w)
    pointwise
  · unfold value
    rw [regions_at, regions_at, regions_at, regions_at]

/-- The place of a grid point's block in the launch's array. -/
theorem placed (Z : S7x16x7x1000.Idx → EReal) (t : Fin cfg0.N) (co : Fin 16) (ph : Fin 7) (k : Fin 1000) :
    Z ((win0_2.blk t).view.emb (ix4 0 co ph k)) = Z (ix4 (grid0.coords t 0) co ph k) := by
  blk_ext [idx t]

/-- The array the launch leaves. -/
theorem final (n : Fin 1000 → Fin 4) (c : Dev nD)
    (hn : ∀ k, (m ((c : Thread nD τ).loc main_arg1) : FVec Ideal S1000x5 .f32) (ix2 k 0) = (((n k).val : ℝ) : EReal)) :
    (dats m 0 c).arrAt 2 (cfgs 0).N
      = bins n (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain rfl : y0 = 0 := Subsingleton.elim _ _
  exact ((point m n c hn t y1 y2 y3).trans (bins_at n _ _ _ y1 y2 y3).symm).trans (placed (bins n _ _) t y1 y2 y3).symm

/-- The array the program returns: the bins, region by region. -/
def out (n : Fin 1000 → Fin 4) (X : FVec Ideal S4x784x32x32 .f32) (R : FVec Ideal S1000x5 .f32) :
    FVec Ideal S1000x16x7x7 .f32 := fun i => value n X R (i 0) (i 1) (i 2) (i 3)

/-- The launch's array with the regions' axis brought to the front. -/
theorem transposed (n : Fin 1000 → Fin 4) (X : FVec Ideal S4x784x32x32 .f32) (R : FVec Ideal S1000x5 .f32) :
    transpose S1000x16x7x7 [3, 1, 2, 0] (bins n X R) transposes_S7x16x7x1000_S1000x16x7x7_3_1_2_0 = out n X R := by
  funext i
  idx_vars i
  have h : ∀ Z : FVec Ideal S7x16x7x1000 .f32, transpose S1000x16x7x7 [3, 1, 2, 0] Z transposes_S7x16x7x1000_S1000x16x7x7_3_1_2_0
      (ix4 i0 i1 i2 i3) = Z (ix4 i3 i1 i2 i0) := fun Z => by pointwise
  exact (h _).trans (bins_at n X R i3 i1 i2 i0)

/-- THE KERNEL'S RUN: from any memory whose regions name the images `n`, the program ends with the bins in its result. -/
theorem run (ρ : Dev nD → PrngReg) (n : Dev nD → Fin 1000 → Fin 4)
    (hn : ∀ c k, (m ((c : Thread nD τ).loc main_arg1) : FVec Ideal S1000x5 .f32) (ix2 k 0) = (((n c k).val : ℝ) : EReal)) :
    θ_run (defs (F := Ideal)) (onTc (τ := τ) (main (F := Ideal))) ⟨m, fun _ => 0, ρ⟩ fun r => ∀ c : Dev nD,
      r.2.mem ((c.tc : Thread nD τ).loc main_v4)
          = out (n c) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Gen.run_main m ρ
  · unfold Pipeline.afterTail₀
    show StableHlo.after hostOps1 _ (Proc.devRef .tc main_v4) = _
    after_results
    erw [Pipeline.withArrays_arr _ launch0.win.arr_inj c _ _ 2]
    rw [final m (n c) c (hn c)]
    exact transposed _ _ _
  · exact W_main_arg0 m (dats m) c
  · exact W_main_arg1 m (dats m) c

end Cert.KernelIdeal.Value

end
-- ==== Proof.RefCoords.lean ====
/-
  The reference's sampling coordinates, and the cells and weights it takes from them.
-/
module

public import proofs.«01_k».proof.Proof.Gen.ReferenceIdeal.Read
public import proofs.«01_k».proof.Proof.Taps
public import Idealize.ShloMosaic.Lib.Pointwise

@[expose] public section

set_option maxRecDepth 16384

noncomputable section

namespace Cert.ReferenceIdeal.Point

open Idealize.ShloMosaic Idealize.ShloMosaic.TcCoe Idealize.SL.Sem
open Cert.ReferenceIdeal Cert.ReferenceIdeal.Read Cert.RoiAlign
open scoped BigOperators

/-- The two sampling positions inside a bin. -/
def spot (s : Fin 2) : ℝ := ((s.val : ℝ) + 1 / 2) / 2

theorem spot_zero : spot 0 = 1 / 4 := by norm_num [spot]

theorem spot_one : spot 1 = 3 / 4 := by norm_num [spot]

/-- A small word read as a signed integer is the number it spells. -/
theorem toInt_ofNat (n : ℕ) (h : n < 2147483648) : (BitVec.ofNat 32 n).toInt = (n : ℤ) := by
  rw [BitVec.toInt_eq_toNat_of_lt] <;> simp only [BitVec.toNat_ofNat] <;> omega

/-- A small word as a real. -/
theorem sitofp_ofNat (n : ℕ) (h : n < 2147483648) :
    (FloatOps.sitofp (F := Ideal) .f32 (BitVec.ofNat 32 n) : EReal) = ((n : ℝ) : EReal) := by
  show (((BitVec.ofNat 32 n).toInt : ℝ) : EReal) = _
  rw [toInt_ofNat n h]
  norm_cast

theorem v43_at (s : Fin 2) : val_main_v43 (F := Ideal) (ix1 s) = ((spot s : ℝ) : EReal) := by
  pointwise [val_main_v39, val_main_v40, val_main_v41, val_main_v42, val_main_v43, val_main_cst_11, val_main_cst_12]
  rw [sitofp_ofNat _ (by omega), bits_half, bits_two]
  show Ideal.div (((s.val : ℝ) : EReal) + ((1 / 2 : ℝ) : EReal)) ((2 : ℝ) : EReal) = _
  rw [← EReal.coe_add, Ideal.div_coe (by norm_num : (2 : ℝ) ≠ 0), ← EReal.coe_mul]
  congr 1
  unfold spot
  ring

theorem v37_at (p : Fin 7) : val_main_v37 (F := Ideal) (ix1 p) = ((p.val : ℝ) : EReal) := by
  pointwise [val_main_v37]
  exact sitofp_ofNat _ (by omega)

theorem v38_at (p : Fin 7) : val_main_v38 (F := Ideal) (ix1 p) = ((p.val : ℝ) : EReal) := by
  pointwise [val_main_v38]
  exact sitofp_ofNat _ (by omega)

variable (x1 : (⟨S1000x5, .f32⟩ : BufTy).Contents (Elt Ideal))

/-- The reference's sampling row. -/
theorem v55_at (k : Fin 1000) (p : Fin 7) (s : Fin 2) :
    val_main_v55 (F := Ideal) x1 (ix3 k p s) = coord (x1 (ix2 k 2)) (x1 (ix2 k 4)) p.val (spot s) := by
  pointwise [val_main_v9, val_main_v10, val_main_v11, val_main_v12, val_main_v13, val_main_v14, val_main_v21, val_main_v22, val_main_v23, val_main_v24, val_main_v25, val_main_v26, val_main_v30, val_main_v31, val_main_v32, val_main_v33, val_main_v34, val_main_v44, val_main_v45, val_main_v46, val_main_v47, val_main_v48, val_main_v49, val_main_v50, val_main_v51, val_main_v52, val_main_v53, val_main_v54, val_main_v55, val_main_cst_1, val_main_cst_2, val_main_cst_5, val_main_cst_6, val_main_cst_8, val_main_cst_9, v37_at, v43_at]
  rfl

/-- The reference's sampling column. -/
theorem v67_at (k : Fin 1000) (p : Fin 7) (s : Fin 2) :
    val_main_v67 (F := Ideal) x1 (ix3 k p s) = coord (x1 (ix2 k 1)) (x1 (ix2 k 3)) p.val (spot s) := by
  pointwise [val_main_v3, val_main_v4, val_main_v5, val_main_v6, val_main_v7, val_main_v8, val_main_v15, val_main_v16, val_main_v17, val_main_v18, val_main_v19, val_main_v20, val_main_v27, val_main_v28, val_main_v29, val_main_v35, val_main_v36, val_main_v56, val_main_v57, val_main_v58, val_main_v59, val_main_v60, val_main_v61, val_main_v62, val_main_v63, val_main_v64, val_main_v65, val_main_v66, val_main_v67, val_main_cst, val_main_cst_0, val_main_cst_3, val_main_cst_4, val_main_cst_7, val_main_cst_10, v38_at, v43_at]
  rfl

/-- The bit of a coordinate that counts. -/
theorem valid_bit (v : EReal) :
    IntOp.andi (BitVec.ofBool (decide (Ideal.ofBits .f32 3212836864#32 ≤ v))) (BitVec.ofBool (decide (v ≤ Ideal.ofBits .f32 1107296256#32)))
      = if Valid v then 1#1 else 0#1 := by
  rw [bits_neg_one, bits_thirty_two]
  unfold Valid
  by_cases h1 : ((-1 : ℝ) : EReal) ≤ v <;> by_cases h2 : v ≤ ((32 : ℝ) : EReal) <;> simp only [h1, h2] <;> decide

/-- Whether the sampling row counts. -/
theorem v75_at (i : S1000x7x2.Idx) :
    val_main_v75 (F := Ideal) x1 i = if Valid (val_main_v55 (F := Ideal) x1 i) then 1#1 else 0#1 := by
  pointwise [val_main_v71, val_main_v72, val_main_v73, val_main_v74, val_main_v75, val_main_cst_13, val_main_cst_14]
  exact valid_bit _

/-- Whether the sampling column counts. -/
theorem v80_at (i : S1000x7x2.Idx) :
    val_main_v80 (F := Ideal) x1 i = if Valid (val_main_v67 (F := Ideal) x1 i) then 1#1 else 0#1 := by
  pointwise [val_main_v76, val_main_v77, val_main_v78, val_main_v79, val_main_v80, val_main_cst_15, val_main_cst_16]
  exact valid_bit _

/-- The cell below the sampling row. -/
theorem v88_at (i : S1000x7x2.Idx) :
    val_main_v88 (F := Ideal) x1 i = lowW (val_main_v55 (F := Ideal) x1 i) := by
  pointwise [val_main_v81, val_main_v82, val_main_v85, val_main_v86, val_main_v87, val_main_v88, val_main_cst_17, val_main_c]
  rfl

/-- The cell below the sampling column. -/
theorem v92_at (i : S1000x7x2.Idx) :
    val_main_v92 (F := Ideal) x1 i = lowW (val_main_v67 (F := Ideal) x1 i) := by
  pointwise [val_main_v83, val_main_v84, val_main_v89, val_main_v90, val_main_v91, val_main_v92, val_main_cst_18, val_main_c_19]
  rfl

/-- The cell above the sampling row. -/
theorem v96_at (i : S1000x7x2.Idx) :
    val_main_v96 (F := Ideal) x1 i = highW (val_main_v55 (F := Ideal) x1 i) := by
  pointwise [val_main_v93, val_main_v94, val_main_v95, val_main_v96, val_main_c_20, val_main_c_21, v88_at]
  rfl

/-- The cell above the sampling column. -/
theorem v100_at (i : S1000x7x2.Idx) :
    val_main_v100 (F := Ideal) x1 i = highW (val_main_v67 (F := Ideal) x1 i) := by
  pointwise [val_main_v97, val_main_v98, val_main_v99, val_main_v100, val_main_c_22, val_main_c_23, v92_at]
  rfl

/-- The fraction of the sampling row. -/
theorem v110_at (i : S1000x7x2.Idx) :
    val_main_v110 (F := Ideal) x1 i = fracE (val_main_v55 (F := Ideal) x1 i) := by
  pointwise [val_main_v81, val_main_v82, val_main_v101, val_main_v102, val_main_v103, val_main_v104, val_main_v109, val_main_v110, val_main_cst_17, val_main_c_24, v88_at]
  rfl

/-- The fraction of the sampling column. -/
theorem v114_at (i : S1000x7x2.Idx) :
    val_main_v114 (F := Ideal) x1 i = fracE (val_main_v67 (F := Ideal) x1 i) := by
  pointwise [val_main_v83, val_main_v84, val_main_v105, val_main_v106, val_main_v107, val_main_v108, val_main_v113, val_main_v114, val_main_cst_18, val_main_c_25, v92_at]
  rfl

/-- One less the fraction of the sampling row. -/
theorem v112_at (i : S1000x7x2.Idx) :
    val_main_v112 (F := Ideal) x1 i = 1 - fracE (val_main_v55 (F := Ideal) x1 i) := by
  pointwise [val_main_v111, val_main_v112, val_main_cst_26, v110_at]
  try rfl

/-- One less the fraction of the sampling column. -/
theorem v116_at (i : S1000x7x2.Idx) :
    val_main_v116 (F := Ideal) x1 i = 1 - fracE (val_main_v67 (F := Ideal) x1 i) := by
  pointwise [val_main_v115, val_main_v116, val_main_cst_27, v114_at]
  try rfl

end Cert.ReferenceIdeal.Point

end
-- ==== Proof.RefGather.lean ====
/-
  The reference's two gathers read at an index: a region's image, and a cell of that image.
-/
module

public import proofs.«01_k».proof.Proof.Gen.ReferenceIdeal.Read
public import Idealize.ShloMosaic.Lib.Pointwise

@[expose] public section

set_option maxRecDepth 16384

noncomputable section

namespace Cert.ReferenceIdeal.Point

open Idealize.ShloMosaic Idealize.ShloMosaic.TcCoe Idealize.SL.Sem
open Cert.ReferenceIdeal
open scoped BigOperators

/-- The dimension numbers of the gather of images. -/
abbrev imageDims := gather_S4x784x32x32_S1000x4_S1000x1x784x32x32_1234_n_n_n_0123_1_17843232

/-- The dimension numbers of the gathers of cells. -/
abbrev cellDims := gather_S1000x784x32x32_S1000x16x7x7x2x2x3_S1000x16x7x7x2x2_n_123_0_0_123_6_1111

/-- The gather of images at an index, where the start row is zero but for its first component: that component, read as
    a signed integer and clamped, is the image. -/
theorem image_gather {α : Type} (x : S4x784x32x32.Idx → α) (idx : IVec S1000x4 32) (k : Fin 1000) (ch : Fin 784) (h w : Fin 32)
    (h1 : idx (ix2 k 1) = 0#32) (h2 : idx (ix2 k 2) = 0#32) (h3 : idx (ix2 k 3) = 0#32) :
    Host.gather imageDims x idx (ix5 k 0 ch h w) = x (ix4 ⟨min (idx (ix2 k 0)).toInt.toNat 3, by omega⟩ ch h w) := by
  unfold Host.gather
  congr 1
  funext a
  refine Fin.ext ?_
  show imageDims.start (ix5 k 0 ch h w) idx a + imageDims.batchCoord (ix5 k 0 ch h w) a + imageDims.offCoord (ix5 k 0 ch h w) a = _
  rw [GatherDims.batchCoord_eq_zero _ _ _ List.not_mem_nil, Nat.add_zero]
  have hm : a ∈ imageDims.startIndexMap := (by decide : ∀ a : Fin 4, a ∈ ([0, 1, 2, 3] : List (Fin 4))) a
  unfold GatherDims.start
  rw [dif_pos hm]
  have hsi : imageDims.siIdx (ix5 k 0 ch h w) ⟨List.idxOf a imageDims.startIndexMap, List.idxOf_lt_length_iff.2 hm⟩ = ix2 k a := by
    funext b
    refine Fin.ext ?_
    match b with
    | ⟨0, _⟩ => rfl
    | ⟨1, _⟩ =>
      match a with
      | ⟨0, _⟩ => rfl
      | ⟨1, _⟩ => rfl
      | ⟨2, _⟩ => rfl
      | ⟨3, _⟩ => rfl
  rw [hsi]
  match a with
  | ⟨0, _⟩ => rfl
  | ⟨1, _⟩ =>
    rw [show idx (ix2 k ⟨1, _⟩) = 0#32 from h1]
    exact Nat.zero_add _
  | ⟨2, _⟩ =>
    rw [show idx (ix2 k ⟨2, _⟩) = 0#32 from h2]
    exact Nat.zero_add _
  | ⟨3, _⟩ =>
    rw [show idx (ix2 k ⟨3, _⟩) = 0#32 from h3]
    exact Nat.zero_add _

/-- The gather of cells at an index: the region's own image, at the channel, row and column its start row names, each
    read as a signed integer and clamped. -/
theorem cell_gather {α : Type} (x : S1000x784x32x32.Idx → α) (idx : IVec S1000x16x7x7x2x2x3 32) (k : Fin 1000) (co : Fin 16)
    (ph pw : Fin 7) (sy sx : Fin 2) :
    Host.gather cellDims x idx (ix6 k co ph pw sy sx)
      = x (ix4 k ⟨min (idx (ix7 k co ph pw sy sx 0)).toInt.toNat 783, by omega⟩
          ⟨min (idx (ix7 k co ph pw sy sx 1)).toInt.toNat 31, by omega⟩
          ⟨min (idx (ix7 k co ph pw sy sx 2)).toInt.toNat 31, by omega⟩) := by
  unfold Host.gather
  congr 1
  funext a
  refine Fin.ext ?_
  show cellDims.start (ix6 k co ph pw sy sx) idx a + cellDims.batchCoord (ix6 k co ph pw sy sx) a
    + cellDims.offCoord (ix6 k co ph pw sy sx) a = _
  by_cases ha : a = 0
  · subst ha
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 4) ∈ cellDims.operandBatchingDims from List.mem_singleton.mpr rfl)]
    rfl
  · have hm : a ∈ cellDims.startIndexMap := (by decide : ∀ a : Fin 4, a ≠ 0 → a ∈ ([1, 2, 3] : List (Fin 4))) a ha
    have hc : a ∈ cellDims.collapsedSliceDims := hm
    rw [GatherDims.batchCoord_eq_zero _ _ _ (fun h => ha (List.mem_singleton.mp h)),
      GatherDims.offCoord_eq_zero _ _ _ (fun h => ((GatherDims.mem_sKept _ _).mp h).1 hc)]
    simp only [Nat.add_zero]
    unfold GatherDims.start
    rw [dif_pos hm]
    match a with
    | ⟨0, _⟩ => exact absurd rfl ha
    | ⟨1, _⟩ =>
      have hsi : cellDims.siIdx (ix6 k co ph pw sy sx) ⟨List.idxOf (1 : Fin 4) cellDims.startIndexMap, List.idxOf_lt_length_iff.2 hm⟩
          = ix7 k co ph pw sy sx 0 := by
        funext b; refine Fin.ext ?_
        match b with
        | ⟨0, _⟩ => rfl
        | ⟨1, _⟩ => rfl
        | ⟨2, _⟩ => rfl
        | ⟨3, _⟩ => rfl
        | ⟨4, _⟩ => rfl
        | ⟨5, _⟩ => rfl
        | ⟨6, _⟩ => rfl
      exact congrArg (fun z => min (idx z).toInt.toNat 783) hsi
    | ⟨2, _⟩ =>
      have hsi : cellDims.siIdx (ix6 k co ph pw sy sx) ⟨List.idxOf (2 : Fin 4) cellDims.startIndexMap, List.idxOf_lt_length_iff.2 hm⟩
          = ix7 k co ph pw sy sx 1 := by
        funext b; refine Fin.ext ?_
        match b with
        | ⟨0, _⟩ => rfl
        | ⟨1, _⟩ => rfl
        | ⟨2, _⟩ => rfl
        | ⟨3, _⟩ => rfl
        | ⟨4, _⟩ => rfl
        | ⟨5, _⟩ => rfl
        | ⟨6, _⟩ => rfl
      exact congrArg (fun z => min (idx z).toInt.toNat 31) hsi
    | ⟨3, _⟩ =>
      have hsi : cellDims.siIdx (ix6 k co ph pw sy sx) ⟨List.idxOf (3 : Fin 4) cellDims.startIndexMap, List.idxOf_lt_length_iff.2 hm⟩
          = ix7 k co ph pw sy sx 2 := by
        funext b; refine Fin.ext ?_
        match b with
        | ⟨0, _⟩ => rfl
        | ⟨1, _⟩ => rfl
        | ⟨2, _⟩ => rfl
        | ⟨3, _⟩ => rfl
        | ⟨4, _⟩ => rfl
        | ⟨5, _⟩ => rfl
        | ⟨6, _⟩ => rfl
      exact congrArg (fun z => min (idx z).toInt.toNat 31) hsi

end Cert.ReferenceIdeal.Point

end
-- ==== Proof.RefValue.lean ====
/-
  The reference's sampled cells, their interpolation, and its result.
-/
module

public import proofs.«01_k».proof.Proof.Gen.ReferenceIdeal.Read
public import proofs.«01_k».proof.Proof.Taps
public import Idealize.ShloMosaic.Lib.Pointwise
public import proofs.«01_k».proof.Proof.RefCoords
public import proofs.«01_k».proof.Proof.RefGather

@[expose] public section

set_option maxRecDepth 16384

noncomputable section

namespace Cert.ReferenceIdeal.Point

open Idealize.ShloMosaic Idealize.ShloMosaic.TcCoe Idealize.SL.Sem
open Cert.ReferenceIdeal Cert.ReferenceIdeal.Read Cert.RoiAlign
open scoped BigOperators

variable (x0 : (⟨S4x784x32x32, .f32⟩ : BufTy).Contents (Elt Ideal)) (x1 : (⟨S1000x5, .f32⟩ : BufTy).Contents (Elt Ideal))

/-! ## A region's image -/

/-- The number of an image converted to a word. -/
theorem fptosi_small (n : Fin 4) : Ideal.fptosi 32 ((n.val : ℝ) : EReal) = BitVec.ofNat 32 n.val := by
  have hf : ⌊((n.val : ℕ) : ℝ)⌋ = ((n.val : ℕ) : ℤ) := Int.floor_natCast _
  show BitVec.ofInt 32 (max _ (min _ (if (0 : ℝ) ≤ (n.val : ℝ) then ⌊(n.val : ℝ)⌋ else ⌈(n.val : ℝ)⌉))) = _
  rw [if_pos (Nat.cast_nonneg _), hf]
  clear hf
  revert n
  decide

theorem v2_at (k : Fin 1000) (n : Fin 4) (hn : x1 (ix2 k 0) = ((n.val : ℝ) : EReal)) :
    val_main_v2 (F := Ideal) x1 (ix1 k) = BitVec.ofNat 32 n.val := by
  pointwise [val_main_v0, val_main_v1, val_main_v2]
  rw [hn]
  exact fptosi_small n

/-- The word of an image after the wrapping of negative numbers, which leaves it. -/
theorem wrap_image : ∀ n : Fin 4, Scalar.select (IntOp.cmpi .slt (BitVec.ofNat 32 n.val) 0#32)
    (IntOp.addi (BitVec.ofNat 32 n.val) 4#32) (BitVec.ofNat 32 n.val) = BitVec.ofNat 32 n.val := by decide

theorem v135_0 (k : Fin 1000) (n : Fin 4) (hn : x1 (ix2 k 0) = ((n.val : ℝ) : EReal)) :
    val_main_v135 (F := Ideal) x1 (ix2 k 0) = BitVec.ofNat 32 n.val := by
  pointwise [val_main_v117, val_main_v118, val_main_v119, val_main_v120, val_main_v121, val_main_v131, val_main_v135, val_main_c_28, val_main_c_29]
  rw [v2_at x1 k n hn]
  exact wrap_image n

theorem v135_1 (k : Fin 1000) : val_main_v135 (F := Ideal) x1 (ix2 k 1) = 0#32 := by
  pointwise [val_main_v122, val_main_v123, val_main_v124, val_main_v132, val_main_v135, val_main_c_30, val_main_c_31, val_main_c_32, val_main_c_33, val_main_c_34]
  try rfl

theorem v135_2 (k : Fin 1000) : val_main_v135 (F := Ideal) x1 (ix2 k 2) = 0#32 := by
  pointwise [val_main_v125, val_main_v126, val_main_v127, val_main_v133, val_main_v135, val_main_c_35, val_main_c_36, val_main_c_37, val_main_c_38, val_main_c_39]
  try rfl

theorem v135_3 (k : Fin 1000) : val_main_v135 (F := Ideal) x1 (ix2 k 3) = 0#32 := by
  pointwise [val_main_v128, val_main_v129, val_main_v130, val_main_v134, val_main_v135, val_main_c_40, val_main_c_41, val_main_c_42, val_main_c_43, val_main_c_44]
  try rfl

/-- The gathered images: each region's own. -/
theorem v137_at (k : Fin 1000) (n : Fin 4) (hn : x1 (ix2 k 0) = ((n.val : ℝ) : EReal)) (ch : Fin 784) (h w : Fin 32) :
    val_main_v137 (F := Ideal) x0 x1 (ix4 k ch h w) = x0 (ix4 n ch h w) := by
  pointwise [val_main_v137]
  unfold val_main_v136
  rw [image_gather x0 _ k ch h w (v135_1 x1 k) (v135_2 x1 k) (v135_3 x1 k)]
  congr 1
  have e : (val_main_v135 (F := Ideal) x1 (ix2 k 0)).toInt.toNat = n.val := by
    rw [v135_0 x1 k n hn, toInt_ofNat _ (by omega)]
    exact Int.toNat_natCast _
  refine congrArg (fun z : Fin 4 => (ix4 z ch h w : S4x784x32x32.Idx)) (Fin.ext ?_)
  show min _ 3 = n.val
  rw [e]
  omega

/-! ## The start rows of the sampled cells -/

/-- The channel of the packed image that the output channel `co` reads for the bin `(ph, pw)`. -/
def channel (co : Fin 16) (ph pw : Fin 7) : Fin 784 := ⟨(co.val * 7 + ph.val) * 7 + pw.val, by omega⟩

/-- The word of a channel after the wrapping of negative numbers, which leaves it. -/
theorem wrap_channel : ∀ c : Fin 784, Scalar.select (IntOp.cmpi .slt (BitVec.ofNat 32 c.val) 0#32)
    (IntOp.addi (BitVec.ofNat 32 c.val) 784#32) (BitVec.ofNat 32 c.val) = BitVec.ofNat 32 c.val := by decide +kernel

theorem wrap_at (co : Fin 16) (ph pw : Fin 7) :
    Scalar.select (IntOp.cmpi CmpIPredicate.slt (BitVec.ofNat 32 (co.val * 49 + ph.val * 7 + pw.val)) 0#32)
      (IntOp.addi (BitVec.ofNat 32 (co.val * 49 + ph.val * 7 + pw.val)) 784#32) (BitVec.ofNat 32 (co.val * 49 + ph.val * 7 + pw.val))
      = BitVec.ofNat 32 (channel co ph pw).val := by
  have h : co.val * 49 + ph.val * 7 + pw.val = (channel co ph pw).val := by
    show _ = (co.val * 7 + ph.val) * 7 + pw.val
    omega
  rw [h]
  exact wrap_channel _

/-- A row's or column's word after the wrapping of negative numbers. -/
def wrapped (w : BitVec 32) : BitVec 32 := Scalar.select (IntOp.cmpi .slt w 0#32) (IntOp.addi w 32#32) w

/-- The cells a gather reads whose start rows hold the channel, a wrapped row and a wrapped column. -/
theorem corner (idx : IVec S1000x16x7x7x2x2x3 32) (k : Fin 1000) (n : Fin 4) (hn : x1 (ix2 k 0) = ((n.val : ℝ) : EReal))
    (co : Fin 16) (ph pw : Fin 7) (sy sx : Fin 2) (wy wx : BitVec 32)
    (h0 : idx (ix7 k co ph pw sy sx 0) = BitVec.ofNat 32 (channel co ph pw).val)
    (h1 : idx (ix7 k co ph pw sy sx 1) = wrapped wy) (h2 : idx (ix7 k co ph pw sy sx 2) = wrapped wx) :
    Host.gather cellDims (val_main_v137 (F := Ideal) x0 x1) idx (ix6 k co ph pw sy sx)
      = x0 (ix4 n (channel co ph pw) (cell wy) (cell wx)) := by
  rw [cell_gather, v137_at x0 x1 k n hn]
  have e0 : (⟨min (idx (ix7 k co ph pw sy sx 0)).toInt.toNat 783, by omega⟩ : Fin 784) = channel co ph pw := by
    refine Fin.ext ?_
    show min _ 783 = _
    have := (channel co ph pw).isLt
    rw [h0, toInt_ofNat _ (by omega), Int.toNat_natCast]
    omega
  have e1 : (⟨min (idx (ix7 k co ph pw sy sx 1)).toInt.toNat 31, by omega⟩ : Fin 32) = cell wy := by
    refine Fin.ext ?_
    show min _ 31 = _
    rw [h1]
    rfl
  have e2 : (⟨min (idx (ix7 k co ph pw sy sx 2)).toInt.toNat 31, by omega⟩ : Fin 32) = cell wx := by
    refine Fin.ext ?_
    show min _ 31 = _
    rw [h2]
    rfl
  rw [e0, e1, e2]

/-! ### The corner 1 -/

theorem v149_at (co : Fin 16) (ph pw : Fin 7) (a b : Fin 1) :
    val_main_v149 (F := Ideal) (ix5 co ph pw a b) = BitVec.ofNat 32 (channel co ph pw).val := by
  pointwise [val_main_v68, val_main_v69, val_main_v70, val_main_v145, val_main_v146, val_main_v147, val_main_v148, val_main_v149, val_main_c_45, val_main_c_46]
  exact wrap_at co ph pw

theorem v167_0 (k : Fin 1000) (co : Fin 16) (ph pw : Fin 7) (sy sx : Fin 2) :
    val_main_v167 (F := Ideal) x1 (ix7 k co ph pw sy sx 0) = BitVec.ofNat 32 (channel co ph pw).val := by
  pointwise [val_main_v160, val_main_v163, val_main_v166, val_main_v167, v149_at]

theorem v167_1 (k : Fin 1000) (co : Fin 16) (ph pw : Fin 7) (sy sx : Fin 2) :
    val_main_v167 (F := Ideal) x1 (ix7 k co ph pw sy sx 1) = wrapped (lowW (coord (x1 (ix2 k 2)) (x1 (ix2 k 4)) ph.val (spot sy))) := by
  unfold wrapped
  pointwise [val_main_v143, val_main_v150, val_main_v151, val_main_v152, val_main_v153, val_main_v154, val_main_v161, val_main_v164, val_main_v167, val_main_c_47, val_main_c_48, v88_at, v55_at]

theorem v167_2 (k : Fin 1000) (co : Fin 16) (ph pw : Fin 7) (sy sx : Fin 2) :
    val_main_v167 (F := Ideal) x1 (ix7 k co ph pw sy sx 2) = wrapped (lowW (coord (x1 (ix2 k 1)) (x1 (ix2 k 3)) pw.val (spot sx))) := by
  unfold wrapped
  pointwise [val_main_v144, val_main_v155, val_main_v156, val_main_v157, val_main_v158, val_main_v159, val_main_v162, val_main_v165, val_main_v167, val_main_c_49, val_main_c_50, v92_at, v67_at]

/-- The cells of this corner. -/
theorem v168_at (k : Fin 1000) (n : Fin 4) (hn : x1 (ix2 k 0) = ((n.val : ℝ) : EReal)) (co : Fin 16) (ph pw : Fin 7) (sy sx : Fin 2) :
    val_main_v168 (F := Ideal) x0 x1 (ix6 k co ph pw sy sx)
      = x0 (ix4 n (channel co ph pw) (cell (lowW (coord (x1 (ix2 k 2)) (x1 (ix2 k 4)) ph.val (spot sy)))) (cell (lowW (coord (x1 (ix2 k 1)) (x1 (ix2 k 3)) pw.val (spot sx))))) := by
  unfold val_main_v168
  exact corner x0 x1 _ k n hn co ph pw sy sx _ _ (v167_0 x1 k co ph pw sy sx) (v167_1 x1 k co ph pw sy sx) (v167_2 x1 k co ph pw sy sx)

/-! ### The corner 2 -/

theorem v182_at (co : Fin 16) (ph pw : Fin 7) (a b : Fin 1) :
    val_main_v182 (F := Ideal) (ix5 co ph pw a b) = BitVec.ofNat 32 (channel co ph pw).val := by
  pointwise [val_main_v68, val_main_v69, val_main_v70, val_main_v178, val_main_v179, val_main_v180, val_main_v181, val_main_v182, val_main_c_51, val_main_c_52]
  exact wrap_at co ph pw

theorem v200_0 (k : Fin 1000) (co : Fin 16) (ph pw : Fin 7) (sy sx : Fin 2) :
    val_main_v200 (F := Ideal) x1 (ix7 k co ph pw sy sx 0) = BitVec.ofNat 32 (channel co ph pw).val := by
  pointwise [val_main_v193, val_main_v196, val_main_v199, val_main_v200, v182_at]

theorem v200_1 (k : Fin 1000) (co : Fin 16) (ph pw : Fin 7) (sy sx : Fin 2) :
    val_main_v200 (F := Ideal) x1 (ix7 k co ph pw sy sx 1) = wrapped (lowW (coord (x1 (ix2 k 2)) (x1 (ix2 k 4)) ph.val (spot sy))) := by
  unfold wrapped
  pointwise [val_main_v176, val_main_v183, val_main_v184, val_main_v185, val_main_v186, val_main_v187, val_main_v194, val_main_v197, val_main_v200, val_main_c_53, val_main_c_54, v88_at, v55_at]

theorem v200_2 (k : Fin 1000) (co : Fin 16) (ph pw : Fin 7) (sy sx : Fin 2) :
    val_main_v200 (F := Ideal) x1 (ix7 k co ph pw sy sx 2) = wrapped (highW (coord (x1 (ix2 k 1)) (x1 (ix2 k 3)) pw.val (spot sx))) := by
  unfold wrapped
  pointwise [val_main_v177, val_main_v188, val_main_v189, val_main_v190, val_main_v191, val_main_v192, val_main_v195, val_main_v198, val_main_v200, val_main_c_55, val_main_c_56, v100_at, v67_at]

/-- The cells of this corner. -/
theorem v201_at (k : Fin 1000) (n : Fin 4) (hn : x1 (ix2 k 0) = ((n.val : ℝ) : EReal)) (co : Fin 16) (ph pw : Fin 7) (sy sx : Fin 2) :
    val_main_v201 (F := Ideal) x0 x1 (ix6 k co ph pw sy sx)
      = x0 (ix4 n (channel co ph pw) (cell (lowW (coord (x1 (ix2 k 2)) (x1 (ix2 k 4)) ph.val (spot sy)))) (cell (highW (coord (x1 (ix2 k 1)) (x1 (ix2 k 3)) pw.val (spot sx))))) := by
  unfold val_main_v201
  exact corner x0 x1 _ k n hn co ph pw sy sx _ _ (v200_0 x1 k co ph pw sy sx) (v200_1 x1 k co ph pw sy sx) (v200_2 x1 k co ph pw sy sx)

/-! ### The corner 3 -/

theorem v216_at (co : Fin 16) (ph pw : Fin 7) (a b : Fin 1) :
    val_main_v216 (F := Ideal) (ix5 co ph pw a b) = BitVec.ofNat 32 (channel co ph pw).val := by
  pointwise [val_main_v68, val_main_v69, val_main_v70, val_main_v212, val_main_v213, val_main_v214, val_main_v215, val_main_v216, val_main_c_57, val_main_c_58]
  exact wrap_at co ph pw

theorem v234_0 (k : Fin 1000) (co : Fin 16) (ph pw : Fin 7) (sy sx : Fin 2) :
    val_main_v234 (F := Ideal) x1 (ix7 k co ph pw sy sx 0) = BitVec.ofNat 32 (channel co ph pw).val := by
  pointwise [val_main_v227, val_main_v230, val_main_v233, val_main_v234, v216_at]

theorem v234_1 (k : Fin 1000) (co : Fin 16) (ph pw : Fin 7) (sy sx : Fin 2) :
    val_main_v234 (F := Ideal) x1 (ix7 k co ph pw sy sx 1) = wrapped (highW (coord (x1 (ix2 k 2)) (x1 (ix2 k 4)) ph.val (spot sy))) := by
  unfold wrapped
  pointwise [val_main_v210, val_main_v217, val_main_v218, val_main_v219, val_main_v220, val_main_v221, val_main_v228, val_main_v231, val_main_v234, val_main_c_59, val_main_c_60, v96_at, v55_at]

theorem v234_2 (k : Fin 1000) (co : Fin 16) (ph pw : Fin 7) (sy sx : Fin 2) :
    val_main_v234 (F := Ideal) x1 (ix7 k co ph pw sy sx 2) = wrapped (lowW (coord (x1 (ix2 k 1)) (x1 (ix2 k 3)) pw.val (spot sx))) := by
  unfold wrapped
  pointwise [val_main_v211, val_main_v222, val_main_v223, val_main_v224, val_main_v225, val_main_v226, val_main_v229, val_main_v232, val_main_v234, val_main_c_61, val_main_c_62, v92_at, v67_at]

/-- The cells of this corner. -/
theorem v235_at (k : Fin 1000) (n : Fin 4) (hn : x1 (ix2 k 0) = ((n.val : ℝ) : EReal)) (co : Fin 16) (ph pw : Fin 7) (sy sx : Fin 2) :
    val_main_v235 (F := Ideal) x0 x1 (ix6 k co ph pw sy sx)
      = x0 (ix4 n (channel co ph pw) (cell (highW (coord (x1 (ix2 k 2)) (x1 (ix2 k 4)) ph.val (spot sy)))) (cell (lowW (coord (x1 (ix2 k 1)) (x1 (ix2 k 3)) pw.val (spot sx))))) := by
  unfold val_main_v235
  exact corner x0 x1 _ k n hn co ph pw sy sx _ _ (v234_0 x1 k co ph pw sy sx) (v234_1 x1 k co ph pw sy sx) (v234_2 x1 k co ph pw sy sx)

/-! ### The corner 4 -/

theorem v250_at (co : Fin 16) (ph pw : Fin 7) (a b : Fin 1) :
    val_main_v250 (F := Ideal) (ix5 co ph pw a b) = BitVec.ofNat 32 (channel co ph pw).val := by
  pointwise [val_main_v68, val_main_v69, val_main_v70, val_main_v246, val_main_v247, val_main_v248, val_main_v249, val_main_v250, val_main_c_63, val_main_c_64]
  exact wrap_at co ph pw

theorem v268_0 (k : Fin 1000) (co : Fin 16) (ph pw : Fin 7) (sy sx : Fin 2) :
    val_main_v268 (F := Ideal) x1 (ix7 k co ph pw sy sx 0) = BitVec.ofNat 32 (channel co ph pw).val := by
  pointwise [val_main_v261, val_main_v264, val_main_v267, val_main_v268, v250_at]

theorem v268_1 (k : Fin 1000) (co : Fin 16) (ph pw : Fin 7) (sy sx : Fin 2) :
    val_main_v268 (F := Ideal) x1 (ix7 k co ph pw sy sx 1) = wrapped (highW (coord (x1 (ix2 k 2)) (x1 (ix2 k 4)) ph.val (spot sy))) := by
  unfold wrapped
  pointwise [val_main_v244, val_main_v251, val_main_v252, val_main_v253, val_main_v254, val_main_v255, val_main_v262, val_main_v265, val_main_v268, val_main_c_65, val_main_c_66, v96_at, v55_at]

theorem v268_2 (k : Fin 1000) (co : Fin 16) (ph pw : Fin 7) (sy sx : Fin 2) :
    val_main_v268 (F := Ideal) x1 (ix7 k co ph pw sy sx 2) = wrapped (highW (coord (x1 (ix2 k 1)) (x1 (ix2 k 3)) pw.val (spot sx))) := by
  unfold wrapped
  pointwise [val_main_v245, val_main_v256, val_main_v257, val_main_v258, val_main_v259, val_main_v260, val_main_v263, val_main_v266, val_main_v268, val_main_c_67, val_main_c_68, v100_at, v67_at]

/-- The cells of this corner. -/
theorem v269_at (k : Fin 1000) (n : Fin 4) (hn : x1 (ix2 k 0) = ((n.val : ℝ) : EReal)) (co : Fin 16) (ph pw : Fin 7) (sy sx : Fin 2) :
    val_main_v269 (F := Ideal) x0 x1 (ix6 k co ph pw sy sx)
      = x0 (ix4 n (channel co ph pw) (cell (highW (coord (x1 (ix2 k 2)) (x1 (ix2 k 4)) ph.val (spot sy)))) (cell (highW (coord (x1 (ix2 k 1)) (x1 (ix2 k 3)) pw.val (spot sx))))) := by
  unfold val_main_v269
  exact corner x0 x1 _ k n hn co ph pw sy sx _ _ (v268_0 x1 k co ph pw sy sx) (v268_1 x1 k co ph pw sy sx) (v268_2 x1 k co ph pw sy sx)

/-! ## One sample -/

/-- The sample of one bin at one pair of sampling positions: the weighted sum of the four corners, or zero outside the image. -/
theorem v278_at (k : Fin 1000) (n : Fin 4) (hn : x1 (ix2 k 0) = ((n.val : ℝ) : EReal)) (co : Fin 16) (ph pw : Fin 7) (sy sx : Fin 2) :
    val_main_v278 (F := Ideal) x0 x1 (ix6 k co ph pw sy sx)
      = sample (fun h w => x0 (ix4 n (channel co ph pw) h w)) (coord (x1 (ix2 k 2)) (x1 (ix2 k 4)) ph.val (spot sy)) (coord (x1 (ix2 k 1)) (x1 (ix2 k 3)) pw.val (spot sx)) := by
  pointwise [val_main_v138, val_main_v139, val_main_v140, val_main_v141, val_main_v142, val_main_v169, val_main_v170, val_main_v171, val_main_v172, val_main_v173, val_main_v174, val_main_v175, val_main_v202, val_main_v203, val_main_v204, val_main_v205, val_main_v206, val_main_v207, val_main_v208, val_main_v209, val_main_v236, val_main_v237, val_main_v238, val_main_v239, val_main_v240, val_main_v241, val_main_v242, val_main_v243, val_main_v270, val_main_v271, val_main_v272, val_main_v273, val_main_v274, val_main_v275, val_main_v276, val_main_v277, val_main_v278, val_main_call2_v0, val_main_call2_v1, val_main_call2_v2, val_main_call2_v3, val_main_cst_69, val_main_v204, val_main_v238,
    v168_at x0 x1 k n hn, v201_at x0 x1 k n hn, v235_at x0 x1 k n hn, v269_at x0 x1 k n hn, v75_at, v80_at,
    v110_at, v112_at, v114_at, v116_at, v55_at, v67_at]
  have hz : (id (constant S_ FTy.f32 0#32) ix0 : Ideal .f32) = 0 := Ideal.ofBits_zero_f32
  rw [hz]
  unfold sample
  generalize coord (x1 (ix2 k 2)) (x1 (ix2 k 4)) (↑ph) (spot sy) = vy
  generalize coord (x1 (ix2 k 1)) (x1 (ix2 k 3)) (↑pw) (spot sx) = vx
  by_cases hy : Valid vy <;> by_cases hx : Valid vx <;> simp only [hy, hx, if_true, if_false, and_true, and_false, and_self] <;> rfl

/-- The sum over the two sampling axes. -/
theorem sum_spots (h : S1000x16x7x7x2x2.ReducesTo [4, 5] S1000x16x7x7) (v : S1000x16x7x7x2x2.Idx → EReal)
    (k : Fin 1000) (co : Fin 16) (ph pw : Fin 7) :
    ∑ i ∈ Finset.univ.filter (fun i => h.drop i = ix4 k co ph pw), v i
      = ∑ p : Fin 2 × Fin 2, v (ix6 k co ph pw p.1 p.2) := by
  refine Finset.sum_filter_eq_sum_of_fiber _ (fun p : Fin 2 × Fin 2 => (ix6 k co ph pw p.1 p.2 : S1000x16x7x7x2x2.Idx)) ?_ ?_ v
  · intro p q e
    exact Prod.ext (congrFun e 4) (congrFun e 5)
  · intro i
    constructor
    · intro e
      refine ⟨(i 4, i 5), ?_⟩
      have e0 : i 0 = k := congrFun e 0
      have e1 : i 1 = co := congrFun e 1
      have e2 : i 2 = ph := congrFun e 2
      have e3 : i 3 = pw := congrFun e 3
      subst e0 e1 e2 e3
      exact (eq_ix6 i).symm
    · rintro ⟨p, rfl⟩
      funext b
      match b with
      | ⟨0, _⟩ => rfl
      | ⟨1, _⟩ => rfl
      | ⟨2, _⟩ => rfl
      | ⟨3, _⟩ => rfl

/-- THE REFERENCE'S RESULT AT AN INDEX, for a region of image `n`. -/
theorem result_at (k : Fin 1000) (n : Fin 4) (hn : x1 (ix2 k 0) = ((n.val : ℝ) : EReal)) (co : Fin 16) (ph pw : Fin 7) :
    val_main_v281 (F := Ideal) x0 x1 (ix4 k co ph pw)
      = roi (fun h w => x0 (ix4 n (channel co ph pw) h w)) (x1 (ix2 k 1)) (x1 (ix2 k 2)) (x1 (ix2 k 3)) (x1 (ix2 k 4)) ph.val pw.val := by
  have hs : val_main_v279 (F := Ideal) x0 x1 (ix4 k co ph pw)
      = ∑ p : Fin 2 × Fin 2, val_main_v278 (F := Ideal) x0 x1 (ix6 k co ph pw p.1 p.2) := by
    refine Eq.trans ?_ (sum_spots Gen.reducesTo_S1000x16x7x7x2x2_S1000x16x7x7_d4_5 _ k co ph pw)
    show Ideal.ofBits .f32 0x00000000#32 + _ = _
    rw [Ideal.ofBits_zero_f32, zero_add]
  pointwise [val_main_v281, val_main_v280, val_main_cst_71]
  rw [hs, Fintype.sum_prod_type]
  simp only [Fin.sum_univ_two, v278_at x0 x1 k n hn, spot_zero, spot_one]
  unfold roi
  rw [← add_assoc]

end Cert.ReferenceIdeal.Point

end
-- ==== Proof.InRange.lean ====
/-
  The precondition, read at a region: its first entry is the number of an image.
-/
module

public import proofs.«01_k».proof.Defs
public import proofs.«01_k».proof.Proof.Gen.Pre_in_range
public import proofs.«01_k».proof.Proof.Taps
public import Idealize.ShloMosaic.Lib.Pointwise
public import Idealize.ShloMosaic.Lib.ReduceAll

@[expose] public section

noncomputable section

namespace Cert.InRange

open Idealize.ShloMosaic Idealize.SL.Sem Cert.Pre_in_range Cert.RoiAlign

/-- A disjunction of two bits is one exactly when one of them is. -/
theorem either (a b : BitVec 1) : IntOp.ori a b = 1#1 → a = 1#1 ∨ b = 1#1 := by
  revert a b
  decide

/-- The bit of a decided proposition is one only where the proposition holds. -/
theorem holds {p : Prop} [Decidable p] (h : BitVec.ofBool (decide p) = 1#1) : p := by
  by_contra hp
  rw [decide_eq_false hp] at h
  exact absurd h (by decide)

/-- Where the precondition holds, the first entry of every region is the number of one of the four images. -/
theorem image (X : FVec Ideal S4x784x32x32 .f32) (R : FVec Ideal S1000x5 .f32)
    (h : Cert.Pre_in_range.fn (F := Ideal) X R ix0 = 1#1) (k : Fin 1000) :
    ∃ n : Fin 4, (R (ix2 k 0) : EReal) = ((n.val : ℝ) : EReal) := by
  dsimp only [Cert.Pre_in_range.fn] at h
  have hk := Host.reduce_andi_all _ _ _ _ _ h (ix1 k)
  revert hk
  pointwise []
  intro hk
  rw [bits_two, bits_three] at hk
  rcases either _ _ hk with hk | h3
  · rcases either _ _ hk with hk | h2
    · rcases either _ _ hk with h0 | h1
      · exact ⟨0, by rw [holds h0]; norm_num⟩
      · exact ⟨1, by rw [holds h1]; norm_num⟩
    · exact ⟨2, by rw [holds h2]; norm_num⟩
  · exact ⟨3, by rw [holds h3]; norm_num⟩

end Cert.InRange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.InRange
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference ends with its arguments unchanged and, declaring no semaphore, with every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) := by
  refine (θ_run _ _ _).mono (fun r h => ⟨fun c => (h c).2, funext fun g => ?_⟩) (Cert.ReferenceIdeal.Value.run m ρ)
  match g with
  | (_, .reg s) => exact s.elim0
  | (_, .dma s) => exact s.elim0

/-- The kernel and the reference end with equal results where every region names one of the four images. -/
theorem value : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hn : ∀ (c : Dev Cert.KernelIdeal.nD) (k : Fin 1000), ∃ n : Fin 4,
      (m ((c.tc : Thread Cert.KernelIdeal.nD Cert.KernelIdeal.τ).loc Cert.KernelIdeal.main_arg1) : FVec Ideal Cert.Pre_in_range.S1000x5 .f32) (ix2 k 0)
        = ((n.val : ℝ) : EReal) :=
    fun c k => Cert.InRange.image _ _ (congrFun (hpre c) ix0) k
  choose n hn using hn
  refine ⟨_, Cert.KernelIdeal.Value.run m g n hn, ?_⟩
  refine (θ_run _ _ _).mono (fun r h c => ⟨(h c).1.trans ?_, (h c).2⟩) (Cert.ReferenceIdeal.Value.run m' g')
  refine (Cert.ReferenceIdeal.Read.val_main_v281_eq (StableHlo.launchContents m' c)).trans ?_
  rw [StableHlo.launchContents_devRef, StableHlo.launchContents_devRef, (hargs c).1, (hargs c).2]
  funext i
  idx_vars i
  exact Cert.ReferenceIdeal.Point.result_at _ _ _ _ (hn c _) _ _ _

/-- Every claim of the certificate. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, value⟩

end Cert.Proof

end
